-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_neighbours_strict [hPre_neighbours_strict : Cert.Pre_neighbours_strict.Facts] (m : (ℓ : Loc Cert.KernelIdeal.nD Cert.KernelIdeal.τ Cert.KernelIdeal.sig) → Buf (Elt Ideal) ℓ) : Prop :=
  ∀ c : Dev Cert.KernelIdeal.nD,
    (Cert.Pre_neighbours_strict.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_neighbours_strict [hPre_neighbours_strict : Cert.Pre_neighbours_strict.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_neighbours_strict.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_neighbours_strict [hKernelIdeal : Cert.KernelIdeal.Facts] [hPre_neighbours_strict : Cert.Pre_neighbours_strict.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_neighbours_strict m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_neighbours_strict [hReferenceIdeal : Cert.ReferenceIdeal.Facts] [hPre_neighbours_strict : Cert.Pre_neighbours_strict.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_neighbours_strict m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_neighbours_strict [hKernelIdeal : Cert.KernelIdeal.Facts] [hReferenceIdeal : Cert.ReferenceIdeal.Facts] [hPre_neighbours_strict : Cert.Pre_neighbours_strict.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_neighbours_strict m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_neighbours_strict : Cert.Pre_neighbours_strict.Facts),
    quiescent_Kernel (hKernel := hKernel)
    ∧ quiescent_KernelIdeal (hKernelIdeal := hKernelIdeal)
    ∧ quiescent_KernelIdeal_pre_neighbours_strict (hKernelIdeal := hKernelIdeal) (hPre_neighbours_strict := hPre_neighbours_strict)
    ∧ quiescent_ReferenceIdeal (hReferenceIdeal := hReferenceIdeal)
    ∧ quiescent_ReferenceIdeal_pre_neighbours_strict (hReferenceIdeal := hReferenceIdeal) (hPre_neighbours_strict := hPre_neighbours_strict)
    ∧ preserves_Kernel_KernelIdeal
    ∧ algebraic_KernelIdeal_ReferenceIdeal_pre_neighbours_strict (hKernelIdeal := hKernelIdeal) (hReferenceIdeal := hReferenceIdeal) (hPre_neighbours_strict := hPre_neighbours_strict)
-- ==== Pre_neighbours_strict.lean ====
abbrev S16384x3 : Shape := ⟨2, ![16384, 3]⟩
abbrev S8 : Shape := ⟨1, ![8]⟩
abbrev S16384x256 : Shape := ⟨2, ![16384, 256]⟩
abbrev S256x256 : Shape := ⟨2, ![256, 256]⟩
abbrev S256 : Shape := ⟨1, ![256]⟩
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x17 : Shape := ⟨3, ![8, 2048, 17]⟩
abbrev S8x2048x16 : Shape := ⟨3, ![8, 2048, 16]⟩

class Facts : Prop where
  shapeCasts_S16384x3_S8x2048x3 : S16384x3.ShapeCasts S8x2048x3
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  sliceFits_S8x2048x2048_S8x2048x17 : S8x2048x2048.Slices (fun _ => 0) S8x2048x17
  slices_S8x2048x17_S8x2048x16_0_0_0 : S8x2048x17.Slices ![0, 0, 0] S8x2048x16
  slices_S8x2048x17_S8x2048x16_0_0_1 : S8x2048x17.Slices ![0, 0, 1] S8x2048x16
  dot_S8x2048x3_S8x2048x3_S8x2048x2048_2_2_1_1_0_0_wf : DotDims.WF S8x2048x3 S8x2048x3 S8x2048x2048 [2] [2] [1] [1] [0] [0]

variable [Facts]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf
def fn {F : FTy → Type} [FloatOps F] (main_arg0 : FVec F S16384x3 .f32) (main_arg1 : IVec S8 32) (main_arg2 : FVec F S16384x256 .f32) (main_arg3 : FVec F S16384x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S8x2048x16 1 :=
  let main_v0 : FVec F S8x2048x3 .f32 := shapeCast S8x2048x3 main_arg0 shapeCasts_S16384x3_S8x2048x3
  let main_v1 : FVec F S8x2048x3 .f32 := mulf main_v0 main_v0
  let main_cst : FVec F S_ .f32 := constant S_ .f32 0x00000000#32
  let main_v2 : FVec F S8x2048 .f32 := (fun x v => Host.reduceAdd x v reducesTo_S8x2048x3_S8x2048_d2 h_S_) main_v1 main_cst
  let main_v3 : FVec F S8x2048x1 .f32 := broadcastInDim S8x2048x1 ![0, 1] bcast_S8x2048_S8x2048x1_0_1 main_v2
  let main_v4 : FVec F S8x1x2048 .f32 := broadcastInDim S8x1x2048 ![0, 2] bcast_S8x2048_S8x1x2048_0_2 main_v2
  let main_v5 : FVec F S8x2048x2048 .f32 := broadcastInDim S8x2048x2048 ![0, 1, 2] bcast_S8x2048x1_S8x2048x2048_0_1_2 main_v3
  let main_v6 : FVec F S8x2048x2048 .f32 := broadcastInDim S8x2048x2048 ![0, 1, 2] bcast_S8x1x2048_S8x2048x2048_0_1_2 main_v4
  let main_v7 : FVec F S8x2048x2048 .f32 := addf main_v5 main_v6
  let main_v8 : FVec F S8x2048x2048 .f32 := (fun l r => Host.dotGeneral dot_S8x2048x3_S8x2048x3_S8x2048x2048_2_2_1_1_0_0 none l r) main_v0 main_v0
  let main_cst_0 : FVec F S_ .f32 := constant S_ .f32 0x40000000#32
  let main_v9 : FVec F S8x2048x2048 .f32 := broadcastInDim S8x2048x2048 ![] bcast_S_S8x2048x2048 main_cst_0
  let main_v10 : FVec F S8x2048x2048 .f32 := mulf main_v9 main_v8
  let main_v11 : FVec F S8x2048x2048 .f32 := subf main_v7 main_v10
  let main_v12 : FVec F S8x2048x2048 .f32 := Host.negf main_v11
  let main_values : FVec F S8x2048x17 .f32 := (fun x => (Host.topK S8x2048x17 2 (FloatOps.cmpfTotal .gt) x sliceFits_S8x2048x2048_S8x2048x17).1) main_v12
  let main_indices : IVec S8x2048x17 32 := (fun x => (Host.topK S8x2048x17 2 (FloatOps.cmpfTotal .gt) x sliceFits_S8x2048x2048_S8x2048x17).2) main_v12
  let main_v13 : FVec F S8x2048x16 .f32 := (extractStridedSlice S8x2048x16 ![0, 0, 0] · slices_S8x2048x17_S8x2048x16_0_0_0) main_values
  let main_v14 : FVec F S8x2048x16 .f32 := (extractStridedSlice S8x2048x16 ![0, 0, 1] · slices_S8x2048x17_S8x2048x16_0_0_1) main_values
  let main_v15 : IVec S8x2048x16 1 := cmpf .ogt main_v13 main_v14
  main_v15
-- ==== Kernel.lean ====
abbrev S16384x3 : Shape := ⟨2, ![16384, 3]⟩
abbrev S8 : Shape := ⟨1, ![8]⟩
abbrev S16384x256 : Shape := ⟨2, ![16384, 256]⟩
abbrev S256x256 : Shape := ⟨2, ![256, 256]⟩
abbrev S256 : Shape := ⟨1, ![256]⟩
abbrev S8x2048x3 : Shape := ⟨3, ![8, 2048, 3]⟩
abbrev S8x2048x256 : Shape := ⟨3, ![8, 2048, 256]⟩
abbrev S1x256 : Shape := ⟨2, ![1, 256]⟩
abbrev S1x2048x3 : Shape := ⟨3, ![1, 2048, 3]⟩
abbrev S1x512x3 : Shape := ⟨3, ![1, 512, 3]⟩
abbrev S1x512x256 : Shape := ⟨3, ![1, 512, 256]⟩
abbrev S1x2048x256 : Shape := ⟨3, ![1, 2048, 256]⟩
abbrev S2048x256 : Shape := ⟨2, ![2048, 256]⟩
abbrev S8x2048 : Shape := ⟨2, ![8, 2048]⟩
abbrev S2048x3 : Shape := ⟨2, ![2048, 3]⟩
abbrev S512x3 : Shape := ⟨2, ![512, 3]⟩
abbrev S1x3 : Shape := ⟨2, ![1, 3]⟩
abbrev S1x2048 : Shape := ⟨2, ![1, 2048]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S64x128 : Shape := ⟨2, ![64, 128]⟩
abbrev S64 : Shape := ⟨1, ![64]⟩
abbrev S64x1 : Shape := ⟨2, ![64, 1]⟩
abbrev S1x512x1 : Shape := ⟨3, ![1, 512, 1]⟩
abbrev S1 : Shape := ⟨1, ![1]⟩
abbrev S1x1x1 : Shape := ⟨3, ![1, 1, 1]⟩
abbrev S512x256 : Shape := ⟨2, ![512, 256]⟩

abbrev nBuf : Space → Nat
  | .hbm => 21
  | .vmem => 21
  | .smem => 0
  | _ => 0

abbrev bufTy : (tb : Table) → Fin (tcTables nBuf tb) → BufTy
  | .hbm, ⟨0, _⟩ => ⟨S16384x3, .f32⟩
  | .hbm, ⟨1, _⟩ => ⟨S8, .i32⟩
  | .hbm, ⟨2, _⟩ => ⟨S16384x256, .f32⟩
  | .hbm, ⟨3, _⟩ => ⟨S16384x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S8x2048x3, .f32⟩
  | .hbm, ⟨13, _⟩ => ⟨S8x2048x256, .f32⟩
  | .hbm, ⟨14, _⟩ => ⟨S8x2048x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S8x2048x256, .f32⟩
  | .hbm, ⟨20, _⟩ => ⟨S16384x256, .f32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S1x512x256, .f32⟩
  | .local _ .vmem, ⟨5, _⟩ => ⟨S1x512x256, .f32⟩
  | .local _ .vmem, ⟨6, _⟩ => ⟨S1x2048x256, .f32⟩
  | .local _ .vmem, ⟨7, _⟩ => ⟨S1x2048x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x512x256, .f32⟩
  | .local _ .vmem, ⟨17, _⟩ => ⟨S1x512x256, .f32⟩
  | .local _ .vmem, ⟨18, _⟩ => ⟨S2048x256, .bf16⟩
  | .local _ .vmem, ⟨19, _⟩ => ⟨S2048x256, .bf16⟩
  | .local _ .vmem, ⟨20, _⟩ => ⟨S8x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_275 : BitVec 32 := 0#32
  let c16_i32 : BitVec 32 := 16#32
  let v1245 : BitVec 32 := Scalar.addi c0_i32_275 c16_i32
  let c1_i32 : BitVec 32 := 1#32
  ⟨c0_i32_275, v1245, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x3 : Shape := ⟨2, ![16384, 3]⟩
abbrev S8 : Shape := ⟨1, ![8]⟩
abbrev S16384x256 : Shape := ⟨2, ![16384, 256]⟩
abbrev S256x256 : Shape := ⟨2, ![256, 256]⟩
abbrev S256 : Shape := ⟨1, ![256]⟩
abbrev S1x256 : Shape := ⟨2, ![1, 256]⟩
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x16 : Shape := ⟨3, ![8, 2048, 16]⟩
abbrev S8x1x1 : Shape := ⟨3, ![8, 1, 1]⟩
abbrev S16384x16 : Shape := ⟨2, ![16384, 16]⟩
abbrev S16384x16x1 : Shape := ⟨3, ![16384, 16, 1]⟩
abbrev S1 : Shape := ⟨1, ![1]⟩
abbrev S1x1x1 : Shape := ⟨3, ![1, 1, 1]⟩
abbrev S16384x16x256 : Shape := ⟨3, ![16384, 16, 256]⟩
abbrev S16384 : Shape := ⟨1, ![16384]⟩
abbrev S16384x1 : Shape := ⟨2, ![16384, 1]⟩

abbrev nBuf : Space → Nat
  | .hbm => 162
  | .vmem => 0
  | .smem => 0
  | _ => 0

abbrev hbmTy0_0 (i : Nat) : BufTy := match i % 128 with
  | 0 => ⟨S16384x3, .f32⟩
  | 1 => ⟨S8, .i32⟩
  | 2 => ⟨S16384x256, .f32⟩
  | 3 => ⟨S16384x256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S16384x256, .f32⟩
  | 14 => ⟨S1x256, .f32⟩
  | 15 => ⟨S16384x256, .f32⟩
  | 16 => ⟨S16384x256, .f32⟩
  | 17 => ⟨S256x256, .f32⟩
  | 18 => ⟨S16384x256, .f32⟩
  | 19 => ⟨S1x256, .f32⟩
  | 20 => ⟨S16384x256, .f32⟩
  | 21 => ⟨S16384x256, .f32⟩
  | 22 => ⟨S256x256, .f32⟩
  | 23 => ⟨S16384x256, .f32⟩
  | 24 => ⟨S1x256, .f32⟩
  | 25 => ⟨S16384x256, .f32⟩
  | 26 => ⟨S16384x256, .f32⟩
  | 27 => ⟨S8x2048x3, .f32⟩
  | 28 => ⟨S8x2048x3, .f32⟩
  | 29 => ⟨S_, .f32⟩
  | 30 => ⟨S8x2048, .f32⟩
  | 31 => ⟨S8x2048x1, .f32⟩
  | 32 => ⟨S8x1x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x16, .f32⟩
  | 43 => ⟨S8x2048x16, .i32⟩
  | 44 => ⟨S8, .i32⟩
  | 45 => ⟨S_, .i32⟩
  | 46 => ⟨S8, .i32⟩
  | 47 => ⟨S8, .i32⟩
  | 48 => ⟨S8x1x1, .i32⟩
  | 49 => ⟨S8x2048x16, .i32⟩
  | 50 => ⟨S8x2048x16, .i32⟩
  | 51 => ⟨S16384x16, .i32⟩
  | 52 => ⟨S_, .i32⟩
  | 53 => ⟨S16384x16, .i32⟩
  | 54 => ⟨S16384x16, .i1⟩
  | 55 => ⟨S_, .i32⟩
  | 56 => ⟨S16384x16, .i32⟩
  | 57 => ⟨S16384x16, .i32⟩
  | 58 => ⟨S16384x16, .i32⟩
  | 59 => ⟨S16384x16x1, .i32⟩
  | 60 => ⟨S1, .i32⟩
  | 61 => ⟨S_, .i32⟩
  | 62 => ⟨S16384x16x1, .i32⟩
  | 63 => ⟨S16384x16x1, .i1⟩
  | 64 => ⟨S1x1x1, .i32⟩
  | 65 => ⟨S16384x16x1, .i32⟩
  | 66 => ⟨S16384x16x1, .i1⟩
  | 67 => ⟨S16384x16x1, .i1⟩
  | 68 => ⟨S_, .i1⟩
  | 69 => ⟨S16384x16, .i1⟩
  | 70 => ⟨S16384x16x256, .f32⟩
  | 71 => ⟨S16384x16x256, .i1⟩
  | 72 => ⟨S_, .f32⟩
  | 73 => ⟨S16384x16x256, .f32⟩
  | 74 => ⟨S16384x16x256, .f32⟩
  | 75 => ⟨S16384x16, .f32⟩
  | 76 => ⟨S_, .f32⟩
  | 77 => ⟨S16384x16, .f32⟩
  | 78 => ⟨S16384x16, .f32⟩
  | 79 => ⟨S_, .f32⟩
  | 80 => ⟨S16384, .f32⟩
  | 81 => ⟨S_, .f32⟩
  | 82 => ⟨S16384, .f32⟩
  | 83 => ⟨S16384, .i1⟩
  | 84 => ⟨S_, .i32⟩
  | 85 => ⟨S16384x16, .i32⟩
  | 86 => ⟨S16384x16, .i1⟩
  | 87 => ⟨S_, .i32⟩
  | 88 => ⟨S16384x16, .i32⟩
  | 89 => ⟨S16384x16, .i32⟩
  | 90 => ⟨S16384x16, .i32⟩
  | 91 => ⟨S16384x16x1, .i32⟩
  | 92 => ⟨S1, .i32⟩
  | 93 => ⟨S_, .i32⟩
  | 94 => ⟨S16384x16x1, .i32⟩
  | 95 => ⟨S16384x16x1, .i1⟩
  | 96 => ⟨S1x1x1, .i32⟩
  | 97 => ⟨S16384x16x1, .i32⟩
  | 98 => ⟨S16384x16x1, .i1⟩
  | 99 => ⟨S16384x16x1, .i1⟩
  | 100 => ⟨S_, .i1⟩
  | 101 => ⟨S16384x16, .i1⟩
  | 102 => ⟨S16384x16, .i1⟩
  | 103 => ⟨S_, .i1⟩
  | 104 => ⟨S16384x16, .i1⟩
  | 105 => ⟨S16384x16, .i1⟩
  | 106 => ⟨S_, .f32⟩
  | 107 => ⟨S_, .f32⟩
  | 108 => ⟨S16384x16, .f32⟩
  | 109 => ⟨S16384x16, .f32⟩
  | 110 => ⟨S_, .f32⟩
  | 111 => ⟨S16384, .f32⟩
  | 112 => ⟨S16384x1, .f32⟩
  | 113 => ⟨S16384x16, .f32⟩
  | 114 => ⟨S16384x16, .f32⟩
  | 115 => ⟨S16384x16, .f32⟩
  | 116 => ⟨S_, .f32⟩
  | 117 => ⟨S_, .f32⟩
  | 118 => ⟨S16384x16, .f32⟩
  | 119 => ⟨S16384x16, .f32⟩
  | 120 => ⟨S_, .f32⟩
  | 121 => ⟨S16384, .f32⟩
  | 122 => ⟨S16384x1, .f32⟩
  | 123 => ⟨S_, .f32⟩
  | 124 => ⟨S16384x1, .f32⟩
  | 125 => ⟨S16384x1, .i1⟩
  | 126 => ⟨S16384x16, .f32⟩
  | 127 => ⟨S16384x16, .f32⟩
  | _ => ⟨S16384x3, .f32⟩

abbrev hbmTy0_1 (i : Nat) : BufTy := match i % 128 with
  | 0 => ⟨S_, .f32⟩
  | 1 => ⟨S_, .f32⟩
  | 2 => ⟨S16384x16, .i1⟩
  | 3 => ⟨S16384x16, .f32⟩
  | 4 => ⟨S16384x16, .f32⟩
  | 5 => ⟨S_, .i32⟩
  | 6 => ⟨S16384x16, .i32⟩
  | 7 => ⟨S16384x16, .i1⟩
  | 8 => ⟨S_, .i32⟩
  | 9 => ⟨S16384x16, .i32⟩
  | 10 => ⟨S16384x16, .i32⟩
  | 11 => ⟨S16384x16, .i32⟩
  | 12 => ⟨S16384x16x1, .i32⟩
  | 13 => ⟨S1, .i32⟩
  | 14 => ⟨S_, .i32⟩
  | 15 => ⟨S16384x16x1, .i32⟩
  | 16 => ⟨S16384x16x1, .i1⟩
  | 17 => ⟨S1x1x1, .i32⟩
  | 18 => ⟨S16384x16x1, .i32⟩
  | 19 => ⟨S16384x16x1, .i1⟩
  | 20 => ⟨S16384x16x1, .i1⟩
  | 21 => ⟨S_, .i1⟩
  | 22 => ⟨S16384x16, .i1⟩
  | 23 => ⟨S16384x16x256, .f32⟩
  | 24 => ⟨S16384x16x256, .i1⟩
  | 25 => ⟨S_, .f32⟩
  | 26 => ⟨S16384x16x256, .f32⟩
  | 27 => ⟨S16384x16x256, .f32⟩
  | 28 => ⟨S16384x256, .f32⟩
  | 29 => ⟨S256x256, .f32⟩
  | 30 => ⟨S16384x256, .f32⟩
  | 31 => ⟨S1x256, .f32⟩
  | 32 => ⟨S16384x256, .f32⟩
  | 33 => ⟨S16384x256, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_values : Ref sig .tc := ⟨.hbm, 42, rfl⟩
abbrev main_indices : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v35 : Ref sig .tc := ⟨.hbm, 74, rfl⟩
abbrev main_v36 : Ref sig .tc := ⟨.hbm, 75, rfl⟩
abbrev main_cst_1 : Ref sig .tc := ⟨.hbm, 76, rfl⟩
abbrev main_v37 : Ref sig .tc := ⟨.hbm, 77, rfl⟩
abbrev main_v38 : Ref sig .tc := ⟨.hbm, 78, rfl⟩
abbrev main_cst_2 : Ref sig .tc := ⟨.hbm, 79, rfl⟩
abbrev main_v39 : Ref sig .tc := ⟨.hbm, 80, rfl⟩
abbrev main_cst_3 : Ref sig .tc := ⟨.hbm, 81, rfl⟩
abbrev main_v40 : Ref sig .tc := ⟨.hbm, 82, rfl⟩
abbrev main_v41 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_c_4 : Ref sig .tc := ⟨.hbm, 103, rfl⟩
abbrev main_call1_v14 : Ref sig .tc := ⟨.hbm, 104, rfl⟩
abbrev main_v42 : Ref sig .tc := ⟨.hbm, 105, rfl⟩
abbrev main_cst_4 : Ref sig .tc := ⟨.hbm, 106, rfl⟩
abbrev main_call2_v0 : Ref sig .tc := ⟨.hbm, 107, rfl⟩
abbrev main_call2_v1 : Ref sig .tc := ⟨.hbm, 108, rfl⟩
abbrev main_v43 : Ref sig .tc := ⟨.hbm, 109, rfl⟩
abbrev main_cst_5 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_6 : Ref sig .tc := ⟨.hbm, 116, rfl⟩
abbrev main_call3_v0 : Ref sig .tc := ⟨.hbm, 117, rfl⟩
abbrev main_call3_v1 : Ref sig .tc := ⟨.hbm, 118, rfl⟩
abbrev main_v49 : Ref sig .tc := ⟨.hbm, 119, rfl⟩
abbrev main_cst_7 : Ref sig .tc := ⟨.hbm, 120, rfl⟩
abbrev main_v50 : Ref sig .tc := ⟨.hbm, 121, rfl⟩
abbrev main_v51 : Ref sig .tc := ⟨.hbm, 122, rfl⟩
abbrev main_cst_8 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_cst_9 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v56 : Ref sig .tc := ⟨.hbm, 132, rfl⟩
abbrev main_call5_c : Ref sig .tc := ⟨.hbm, 133, rfl⟩
abbrev main_call5_v0 : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_c_1 : Ref sig .tc := ⟨.hbm, 141, rfl⟩
abbrev main_call5_c_2 : Ref sig .tc := ⟨.hbm, 142, rfl⟩
abbrev main_call5_v6 : Ref sig .tc := ⟨.hbm, 143, rfl⟩
abbrev main_call5_v7 : Ref sig .tc := ⟨.hbm, 144, rfl⟩
abbrev main_call5_v8 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_3 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_call5_cst : Ref sig .tc := ⟨.hbm, 153, rfl⟩
abbrev main_call5_v15 : Ref sig .tc := ⟨.hbm, 154, rfl⟩
abbrev main_v57 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩

abbrev nD : Nat := 1
abbrev τ : Topo := Topo.v7x

variable {F : FTy → Type} [FloatOps F]
-- ==== Proof.Sel.lean ====
/- The kernel's body with its pure middle named: the pops of the four smallest of each lane, the threshold they
   give, and the branch that falls back to the exact selection. -/
module

public import proofs.«01_k».proof.Proof.Gen.KernelIdeal.Loops

@[expose] public section

noncomputable section

namespace Cert.KernelIdeal.Sel

open Idealize.ShloMosaic Idealize.ShloMosaic.TcCoe Idealize.SL.Sem Cert.KernelIdeal.Gen Cert.KernelIdeal

variable {F : FTy → Type} [FloatOps F]

/-- Four lists of a block of 64 rows, the four heads of each lane. -/
abbrev Quad (F : FTy → Type) := FVec F S64x128 .f32 × FVec F S64x128 .f32 × FVec F S64x128 .f32 × FVec F S64x128 .f32

/-- The smallest of each row. -/
def rowMin (s : FVec F S64x128 .f32) : FVec F S64x1 .f32 :=
  shapeCast S64x1 (multiReduction .minimumf [1] S64 s 0x7F800000#32 reduces_S64x128_S64 (.inl rfl) rfl) shapeCasts_S64_S64x1

/-- The entries at most the smallest of their row. -/
def atMin (s : FVec F S64x128 .f32) : IVec S64x128 1 :=
  cmpf .ole s (broadcastTo S64x128 (rowMin s) broadcasts_S64x1_S64x128)

/-- One pop: where the first list is at its row's smallest, every list moves up by one. -/
def pop (p : Quad F) : Quad F :=
  (select (atMin p.1) p.2.1 p.1, select (atMin p.1) p.2.2.1 p.2.1, select (atMin p.1) p.2.2.2 p.2.2.1,
    select (atMin p.1) (broadcast S64x128 (Scalar.ofBits .f32 0x7F800000#32)) p.2.2.2)

/-- The row minimum after fifteen pops. -/
def popped (p : Quad F) : FVec F S64x1 .f32 :=
  rowMin (pop (pop (pop (pop (pop (pop (pop (pop (pop (pop (pop (pop (pop (pop (pop p))))))))))))))).1

/-- The four lists of the 64 rows from row `64 r`. -/
def quad (h0 h1 h2 h3 : FVec F S512x128 .f32) (o : Fin 2 → ℕ) (h : S512x128.Slices o S64x128) : Quad F :=
  (extractStridedSlice S64x128 o h0 h, extractStridedSlice S64x128 o h1 h, extractStridedSlice S64x128 o h2 h,
    extractStridedSlice S64x128 o h3 h)

/-- The threshold of every row from the four heads of each lane. -/
def fast (h0 h1 h2 h3 : FVec F S512x128 .f32) : FVec F S512x1 .f32 :=
  concatenate S512x1 0 [⟨S64x1, popped (quad h0 h1 h2 h3 ![0, 0] slices_S512x128_o0_0_S64x128)⟩,
    ⟨S64x1, popped (quad h0 h1 h2 h3 ![64, 0] slices_S512x128_o64_0_S64x128)⟩,
    ⟨S64x1, popped (quad h0 h1 h2 h3 ![128, 0] slices_S512x128_o128_0_S64x128)⟩,
    ⟨S64x1, popped (quad h0 h1 h2 h3 ![192, 0] slices_S512x128_o192_0_S64x128)⟩,
    ⟨S64x1, popped (quad h0 h1 h2 h3 ![256, 0] slices_S512x128_o256_0_S64x128)⟩,
    ⟨S64x1, popped (quad h0 h1 h2 h3 ![320, 0] slices_S512x128_o320_0_S64x128)⟩,
    ⟨S64x1, popped (quad h0 h1 h2 h3 ![384, 0] slices_S512x128_o384_0_S64x128)⟩,
    ⟨S64x1, popped (quad h0 h1 h2 h3 ![448, 0] slices_S512x128_o448_0_S64x128)⟩] concatenates_S64x1_S64x1_S64x1_S64x1_S64x1_S64x1_S64x1_S64x1_S512x1_d0

/-- The two by their order. -/
def ce (a b : FVec F S512x128 .f32) : FVec F S512x128 .f32 × FVec F S512x128 .f32 := (minimumf a b, maximumf a b)

/-- The four lists of 512 rows. -/
abbrev Heads (F : FTy → Type) := FVec F S512x128 .f32 × FVec F S512x128 .f32 × FVec F S512x128 .f32 × FVec F S512x128 .f32

/-- Four sorted per lane. -/
def sort4 (a b c d : FVec F S512x128 .f32) : Heads F :=
  let ab := ce a b
  let cd := ce c d
  let lo := ce ab.1 cd.1
  let hi := ce ab.2 cd.2
  let mid := ce lo.2 hi.1
  (lo.1, mid.1, mid.2, hi.2)

/-- The four smallest of two sorted fours, sorted. -/
def bottom4 (a b : Heads F) : Heads F :=
  let l := ce (minimumf a.1 b.2.2.2) (minimumf a.2.2.1 b.2.1)
  let h := ce (minimumf a.2.1 b.2.2.1) (minimumf a.2.2.2 b.1)
  let m := ce l.1 h.1
  let n := ce l.2 h.2
  (m.1, m.2, n.1, n.2)

/-- The lanes `o` to `o + 127` of the distances. -/
def chunk (d : FVec F S512x2048 .f32) (o : Fin 2 → ℕ) (h : S512x2048.Slices o S512x128) : FVec F S512x128 .f32 :=
  extractStridedSlice S512x128 o d h

/-- The four smallest of each lane over the sixteen chunks of the distances, sorted. -/
def heads (d : FVec F S512x2048 .f32) : Heads F :=
  bottom4
    (bottom4
      (sort4 (chunk d ![0, 0] slices_S512x2048_o0_0_S512x128)
        (chunk d ![0, 128] slices_S512x2048_o0_128_S512x128)
        (chunk d ![0, 256] slices_S512x2048_o0_256_S512x128)
        (chunk d ![0, 384] slices_S512x2048_o0_384_S512x128))
      (sort4 (chunk d ![0, 512] slices_S512x2048_o0_512_S512x128)
        (chunk d ![0, 640] slices_S512x2048_o0_640_S512x128)
        (chunk d ![0, 768] slices_S512x2048_o0_768_S512x128)
        (chunk d ![0, 896] slices_S512x2048_o0_896_S512x128)))
    (bottom4
      (sort4 (chunk d ![0, 1024] slices_S512x2048_o0_1024_S512x128)
        (chunk d ![0, 1152] slices_S512x2048_o0_1152_S512x128)
        (chunk d ![0, 1280] slices_S512x2048_o0_1280_S512x128)
        (chunk d ![0, 1408] slices_S512x2048_o0_1408_S512x128))
      (sort4 (chunk d ![0, 1536] slices_S512x2048_o0_1536_S512x128)
        (chunk d ![0, 1664] slices_S512x2048_o0_1664_S512x128)
        (chunk d ![0, 1792] slices_S512x2048_o0_1792_S512x128)
        (chunk d ![0, 1920] slices_S512x2048_o0_1920_S512x128)))

/-- The threshold the heads give. -/
def thr (d : FVec F S512x2048 .f32) : FVec F S512x1 .f32 := fast (heads d).1 (heads d).2.1 (heads d).2.2.1 (heads d).2.2.2

/-- The greatest number of entries at most their row's threshold, over the rows. -/
def maxCount (d : FVec F S512x2048 .f32) (th : FVec F S512x1 .f32) : F .f32 :=
  extractAt ![0, 0, 0] (shapeCast S1x1x1 (multiReduction .maximumf [1, 2] S1 (shapeCast S1x512x1 (shapeCast S512x1
    (multiReduction .add [1] S512 (sitofp .f32 (extui 32 (cmpf .ole d (broadcastTo S512x2048 th broadcasts_S512x1_S512x2048)) natLt_1_32))
      0x00000000#32 reduces_S512x2048_S512 (.inl rfl) rfl) shapeCasts_S512_S512x1) shapeCasts_S512x1_S1x512x1)
    0xFF800000#32 reduces_S1x512x1_S1 (.inl rfl) rfl) shapeCasts_S1_S1x1x1) inpos_S1x1x1_p0_0_0

/-- Whether that number is sixteen. -/
def ok (d : FVec F S512x2048 .f32) (th : FVec F S512x1 .f32) : BitVec 1 :=
  Scalar.cmpi .ne (Scalar.extui (Scalar.cmpf .oeq (maxCount d th) (Scalar.ofBits .f32 0x41800000#32)) : BitVec 32) (0#32)

/-- The exact threshold: the smallest value at the sixteenth round of taking out the smallest. -/
def exact (d : FVec F S512x2048 .f32) : Prog (TpuEff nD τ sig (Elt F) Λ₀ .tc) (FVec F S512x1 .f32) := do
  let r ← Scf.Loop.for k0_t1_loop k0_t1_ok (d, k0_pay560 (F := F)) (fun _ p => pure (k0_pay562 p.1, k0_pay561 p.1))
  pure r.2

/-- The mask the body uses, and its scale. -/
def pick (v10 : IVec S1x2048 1) (d : FVec F S512x2048 .f32) : Prog (TpuEff nD τ sig (Elt F) Λ₀ .tc) (Σ' (v1189 : IVec S512x2048 1), F .f32) := do
  let th : FVec F S512x1 .f32 ← if ok d (thr d) = 1#1 then do
      pure (thr d)
    else do
      exact d
  pure ⟨k0_pay563 v10 d th, k0_pay564 (F := F)⟩

section
variable (i : grid0.Coords) (arg2 : Memref sig .tc .vmem S1x2048x3 .f32) (harg2 : arg2.IsWhole) (arg3 : Memref sig .tc .vmem S1x512x3 .f32) (harg3 : arg3.IsWhole) (arg4 : Memref sig .tc .vmem S1x512x256 .f32) (harg4 : arg4.IsWhole) (arg5 : Memref sig .tc .vmem S1x2048x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S8x2048 .f32) (harg17 : arg17.IsWhole)

/-- The chunks of the distances, as the body hands them on. -/
def chunks (v10 : IVec S1x2048 1) (d : FVec F S512x2048 .f32) : Σ' (v10 : IVec S1x2048 1) (v22 : FVec F S512x2048 .f32) (v25 : FVec F S512x128 .f32) (v26 : FVec F S512x128 .f32) (v27 : FVec F S512x128 .f32) (v28 : FVec F S512x128 .f32) (v29 : FVec F S512x128 .f32) (v30 : FVec F S512x128 .f32) (v31 : FVec F S512x128 .f32) (v32 : FVec F S512x128 .f32) (v33 : FVec F S512x128 .f32) (v34 : FVec F S512x128 .f32) (v35 : FVec F S512x128 .f32) (v36 : FVec F S512x128 .f32) (v37 : FVec F S512x128 .f32) (v38 : FVec F S512x128 .f32) (v39 : FVec F S512x128 .f32), FVec F S512x128 .f32 :=
  ⟨v10, d, chunk d ![0, 256] slices_S512x2048_o0_256_S512x128, chunk d ![0, 384] slices_S512x2048_o0_384_S512x128, chunk d ![0, 512] slices_S512x2048_o0_512_S512x128, chunk d ![0, 640] slices_S512x2048_o0_640_S512x128, chunk d ![0, 768] slices_S512x2048_o0_768_S512x128, chunk d ![0, 896] slices_S512x2048_o0_896_S512x128, chunk d ![0, 1024] slices_S512x2048_o0_1024_S512x128, chunk d ![0, 1152] slices_S512x2048_o0_1152_S512x128, chunk d ![0, 1280] slices_S512x2048_o0_1280_S512x128, chunk d ![0, 1408] slices_S512x2048_o0_1408_S512x128, chunk d ![0, 1536] slices_S512x2048_o0_1536_S512x128, chunk d ![0, 1664] slices_S512x2048_o0_1664_S512x128, chunk d ![0, 1792] slices_S512x2048_o0_1792_S512x128, chunk d ![0, 1920] slices_S512x2048_o0_1920_S512x128,
    minimumf (chunk d ![0, 0] slices_S512x2048_o0_0_S512x128) (chunk d ![0, 128] slices_S512x2048_o0_128_S512x128), maximumf (chunk d ![0, 0] slices_S512x2048_o0_0_S512x128) (chunk d ![0, 128] slices_S512x2048_o0_128_S512x128)⟩

set_option maxRecDepth 65536 in
/-- The pure middle of the body is `pick`. -/
theorem mid_eq (v10 : IVec S1x2048 1) (d : FVec F S512x2048 .f32) :
    (do
      let ⟨v10, v22, v25, v26, v27, v28, v29, v30, v31, v32, v33, v34, v35, v36, v37, v38, v39, v40⟩ : Σ' (v10 : IVec S1x2048 1) (v22 : FVec F S512x2048 .f32) (v25 : FVec F S512x128 .f32) (v26 : FVec F S512x128 .f32) (v27 : FVec F S512x128 .f32) (v28 : FVec F S512x128 .f32) (v29 : FVec F S512x128 .f32) (v30 : FVec F S512x128 .f32) (v31 : FVec F S512x128 .f32) (v32 : FVec F S512x128 .f32) (v33 : FVec F S512x128 .f32) (v34 : FVec F S512x128 .f32) (v35 : FVec F S512x128 .f32) (v36 : FVec F S512x128 .f32) (v37 : FVec F S512x128 .f32) (v38 : FVec F S512x128 .f32) (v39 : FVec F S512x128 .f32), FVec F S512x128 .f32 ← pure (chunks v10 d)
      let ⟨v87, v88, v89, v90, v96, v98, v99, v100⟩ : Σ' (v87 : FVec F S512x128 .f32) (v88 : FVec F S512x128 .f32) (v89 : FVec F S512x128 .f32) (v90 : FVec F S512x128 .f32) (v96 : FVec F S512x128 .f32) (v98 : FVec F S512x128 .f32) (v99 : FVec F S512x128 .f32), FVec F S512x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v25 v26 v27 v28 v29 v30 v31 v32 v33 v34 v35 v36 v37 v38 v39 v40
      let ⟨v111, v112, v113, v114, v145, v149, v150, v151, v152, cst_19⟩ : Σ' (v111 : FVec F S512x128 .f32) (v112 : FVec F S512x128 .f32) (v113 : FVec F S512x128 .f32) (v114 : FVec F S512x128 .f32) (v145 : FVec F S64x128 .f32) (v149 : IVec S64x128 1) (v150 : FVec F S64x128 .f32) (v151 : FVec F S64x128 .f32) (v152 : FVec F S64x128 .f32), F .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v87 v88 v89 v90 v96 v98 v99 v100
      let ⟨v195, v196, v197, v199, v201⟩ : Σ' (v195 : FVec F S64x128 .f32) (v196 : FVec F S64x128 .f32) (v197 : FVec F S64x128 .f32) (v199 : FVec F S64x128 .f32), FVec F S64x1 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v145 v149 v150 v151 v152 cst_19
      let ⟨v246, v247, v248, v249, v250, v251⟩ : Σ' (v246 : FVec F S64x1 .f32) (v247 : FVec F S64x128 .f32) (v248 : FVec F S64x128 .f32) (v249 : FVec F S64x128 .f32) (v250 : FVec F S64x128 .f32), FVec F S64 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v195 v196 v197 v199 v201
      let ⟨v293, v295, v299, v300, v301⟩ : Σ' (v293 : FVec F S64x128 .f32) (v295 : FVec F S64x128 .f32) (v299 : IVec S64x128 1) (v300 : FVec F S64x128 .f32), FVec F S64x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v247 v248 v249 v250 v251
      let ⟨v345, v346, v347, v349⟩ : Σ' (v345 : FVec F S64x128 .f32) (v346 : FVec F S64x128 .f32) (v347 : FVec F S64x128 .f32), FVec F S64x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v293 v295 v299 v300 v301
      let ⟨v378, v396, v397, v398, v400⟩ : Σ' (v378 : FVec F S64x1 .f32) (v396 : FVec F S64x128 .f32) (v397 : FVec F S64x128 .f32) (v398 : FVec F S64x128 .f32), FVec F S64x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v345 v346 v347 v349
      let ⟨v441, v442, v443, v445, v449⟩ : Σ' (v441 : FVec F S64x128 .f32) (v442 : FVec F S64x128 .f32) (v443 : FVec F S64x128 .f32) (v445 : FVec F S64x128 .f32), IVec S64x128 1 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v396 v397 v398 v400
      let ⟨v495, v496, v497, v498⟩ : Σ' (v495 : FVec F S64x128 .f32) (v496 : FVec F S64x128 .f32) (v497 : FVec F S64x128 .f32), FVec F S64 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v441 v442 v443 v445 v449
      let ⟨v510, v541, v545, v546, v547, v548, cst_103⟩ : Σ' (v510 : FVec F S64x1 .f32) (v541 : FVec F S64x128 .f32) (v545 : IVec S64x128 1) (v546 : FVec F S64x128 .f32) (v547 : FVec F S64x128 .f32) (v548 : FVec F S64x128 .f32), F .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v495 v496 v497 v498
      let ⟨v591, v592, v593, v595, v597⟩ : Σ' (v591 : FVec F S64x128 .f32) (v592 : FVec F S64x128 .f32) (v593 : FVec F S64x128 .f32) (v595 : FVec F S64x128 .f32), FVec F S64x1 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v541 v545 v546 v547 v548 cst_103
      let ⟨v642, v643, v644, v645, v646, v647⟩ : Σ' (v642 : FVec F S64x1 .f32) (v643 : FVec F S64x128 .f32) (v644 : FVec F S64x128 .f32) (v645 : FVec F S64x128 .f32) (v646 : FVec F S64x128 .f32), FVec F S64 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v591 v592 v593 v595 v597
      let ⟨v689, v691, v695, v696, v697⟩ : Σ' (v689 : FVec F S64x128 .f32) (v691 : FVec F S64x128 .f32) (v695 : IVec S64x128 1) (v696 : FVec F S64x128 .f32), FVec F S64x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v643 v644 v645 v646 v647
      let ⟨v741, v742, v743, v745⟩ : Σ' (v741 : FVec F S64x128 .f32) (v742 : FVec F S64x128 .f32) (v743 : FVec F S64x128 .f32), FVec F S64x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v689 v691 v695 v696 v697
      let ⟨v774, v792, v793, v794, v796⟩ : Σ' (v774 : FVec F S64x1 .f32) (v792 : FVec F S64x128 .f32) (v793 : FVec F S64x128 .f32) (v794 : FVec F S64x128 .f32), FVec F S64x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v741 v742 v743 v745
      let ⟨v837, v838, v839, v841, v845⟩ : Σ' (v837 : FVec F S64x128 .f32) (v838 : FVec F S64x128 .f32) (v839 : FVec F S64x128 .f32) (v841 : FVec F S64x128 .f32), IVec S64x128 1 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v792 v793 v794 v796
      let ⟨v891, v892, v893, v894⟩ : Σ' (v891 : FVec F S64x128 .f32) (v892 : FVec F S64x128 .f32) (v893 : FVec F S64x128 .f32), FVec F S64 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v837 v838 v839 v841 v845
      let ⟨v906, v937, v941, v942, v943, v944, cst_187⟩ : Σ' (v906 : FVec F S64x1 .f32) (v937 : FVec F S64x128 .f32) (v941 : IVec S64x128 1) (v942 : FVec F S64x128 .f32) (v943 : FVec F S64x128 .f32) (v944 : FVec F S64x128 .f32), F .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v891 v892 v893 v894
      let ⟨v987, v988, v989, v991, v993⟩ : Σ' (v987 : FVec F S64x128 .f32) (v988 : FVec F S64x128 .f32) (v989 : FVec F S64x128 .f32) (v991 : FVec F S64x128 .f32), FVec F S64x1 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v937 v941 v942 v943 v944 cst_187
      let ⟨v1038, v1039, v1040, v1041, v1042, v1043⟩ : Σ' (v1038 : FVec F S64x1 .f32) (v1039 : FVec F S64x128 .f32) (v1040 : FVec F S64x128 .f32) (v1041 : FVec F S64x128 .f32) (v1042 : FVec F S64x128 .f32), FVec F S64 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v111 v112 v113 v114 v987 v988 v989 v991 v993
      let ⟨v1085, v1087, v1091, v1092, v1093⟩ : Σ' (v1085 : FVec F S64x128 .f32) (v1087 : FVec F S64x128 .f32) (v1091 : IVec S64x128 1) (v1092 : FVec F S64x128 .f32), FVec F S64x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1039 v1040 v1041 v1042 v1043
      let ⟨v1137, v1138, v1139, v1141⟩ : Σ' (v1137 : FVec F S64x128 .f32) (v1138 : FVec F S64x128 .f32) (v1139 : FVec F S64x128 .f32), FVec F S64x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1085 v1087 v1091 v1092 v1093
      k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v22 v246 v378 v510 v642 v774 v906 v1038 v1137 v1138 v1139 v1141
    : Prog (TpuEff nD τ sig (Elt F) Λ₀ .tc) (Σ' (v1189 : IVec S512x2048 1), F .f32)) = pick v10 d := by
  simp only [k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, pure_bind, chunks, pick, ok, maxCount, thr, fast, popped, pop, rowMin, atMin, quad, heads, bottom4,
    sort4, ce, chunk, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559]
  refine ite_congr ?_ (fun _ => ?_) (fun _ => ?_)
  · rfl
  · rfl
  · unfold exact k0_t1_body; rw [bind_assoc]; rfl

/-- The filling of the carried buffers, at the first tile of a cloud. -/
def fill (v0 : Vec F S1x2048x3 .f32) : Prog (TpuEff nD τ sig (Elt F) Λ₀ .tc) PUnit :=
  let arg1 : BitVec 32 := BitVec.ofNat 32 (i 1).val
  if Scalar.cmpi .ne (Scalar.extui (Scalar.cmpi .eq arg1 0#32) : BitVec 32) 0#32 = 1#1 then do
    let ⟨v1245, v1278⟩ : Σ' (v1245 : FVec F S2048x256 .f32), FVec F S1x256 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay7 v0)
    let v1280 : Vec F S1x2048 .f32 ← Prog.lift (.load arg17 (Rect.unit (s := S8x2048) ![1, 0] S1x2048.size inb_S8x2048_S1x2048_1_0).toLoadRect (View.loadsAt_vmem h_S1x2048))
    Prog.lift (.store arg17 (Rect.unit (s := S8x2048) ![1, 0] S1x2048.size inb_S8x2048_S1x2048_1_0) (k0_pay8 v1245 v1278) Finset.univ (View.stores_vmem_bits_univ h_S1x2048 rfl) (.inl rfl))
    pure ⟨⟩
  else do
    pure ⟨⟩

/-- The body: the loads, the carried buffers' filling, the mask, the weights, the product and the store. -/
def body : Prog (TpuEff nD τ sig (Elt F) Λ₀ .tc) PUnit := do
  let v0 : Vec F S1x2048x3 .f32 ← Prog.lift (.load arg2 (Rect.unit (s := S1x2048x3) ![0, 0, 0] S1x2048x3.size inb_S1x2048x3_S1x2048x3_0_0_0).toLoadRect (View.loadsAt_vmem h_S1x2048x3))
  let v2 : Vec F S1x512x3 .f32 ← Prog.lift (.load arg3 (Rect.unit (s := S1x512x3) ![0, 0, 0] S1x512x3.size inb_S1x512x3_S1x512x3_0_0_0).toLoadRect (View.loadsAt_vmem h_S1x512x3))
  fill i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0
  let v7 : Vec F S1x2048 .f32 ← Prog.lift (.load arg17 (Rect.unit (s := S8x2048) ![0, 0] S1x2048.size inb_S8x2048_S1x2048_0_0).toLoadRect (View.loadsAt_vmem h_S1x2048))
  let v8 : Vec F S1x2048 .f32 ← Prog.lift (.load arg17 (Rect.unit (s := S8x2048) ![1, 0] S1x2048.size inb_S8x2048_S1x2048_1_0).toLoadRect (View.loadsAt_vmem h_S1x2048))
  let ⟨v1189, v1190⟩ : Σ' (v1189 : IVec S512x2048 1), F .f32 ← pick (k0_pay9 v8) (k0_pay10 v0 v2 v7)
  let v1229 : FVec F S512x2048 .bf16 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1189 v1190
  let v1230 : Vec F S2048x256 .bf16 ← Prog.lift (.load arg16 (Rect.unit (s := S2048x256) ![0, 0] S2048x256.size inb_S2048x256_S2048x256_0_0).toLoadRect (View.loadsAt_vmem h_S2048x256))
  let v1232 : Vec F S256x256 .f32 ← Prog.lift (.load arg12 (Rect.unit (s := S256x256) ![0, 0] S256x256.size inb_S256x256_S256x256_0_0).toLoadRect (View.loadsAt_vmem h_S256x256))
  let v1236 : Vec F S1x256 .f32 ← Prog.lift (.load arg13 (Rect.unit (s := S1x256) ![0, 0] S1x256.size inb_S1x256_S1x256_0_0).toLoadRect (View.loadsAt_vmem h_S1x256))
  let v1241 : Vec F S1x512x256 .f32 ← Prog.lift (.load arg14 (Rect.unit (s := S1x512x256) ![0, 0, 0] S1x512x256.size inb_S1x512x256_S1x512x256_0_0_0).toLoadRect (View.loadsAt_vmem h_S1x512x256))
  Prog.lift (.store arg14 (Rect.unit (s := S1x512x256) ![0, 0, 0] S1x512x256.size inb_S1x512x256_S1x512x256_0_0_0) (k0_pay1 v1229 v1230 v1232 v1236) Finset.univ (View.stores_vmem_bits_univ h_S1x512x256 rfl) (.inl rfl))
  pure ⟨⟩

/-- The second part of the printed body, its chunks named. -/
theorem part2_eq : k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (do
  let v0 : Vec F S1x2048x3 .f32 ← Prog.lift (.load arg2 (Rect.unit (s := S1x2048x3) ![0, 0, 0] S1x2048x3.size inb_S1x2048x3_S1x2048x3_0_0_0).toLoadRect (View.loadsAt_vmem h_S1x2048x3))
  let v2 : Vec F S1x512x3 .f32 ← Prog.lift (.load arg3 (Rect.unit (s := S1x512x3) ![0, 0, 0] S1x512x3.size inb_S1x512x3_S1x512x3_0_0_0).toLoadRect (View.loadsAt_vmem h_S1x512x3))
  fill i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0
  let v7 : Vec F S1x2048 .f32 ← Prog.lift (.load arg17 (Rect.unit (s := S8x2048) ![0, 0] S1x2048.size inb_S8x2048_S1x2048_0_0).toLoadRect (View.loadsAt_vmem h_S1x2048))
  let v8 : Vec F S1x2048 .f32 ← Prog.lift (.load arg17 (Rect.unit (s := S8x2048) ![1, 0] S1x2048.size inb_S8x2048_S1x2048_1_0).toLoadRect (View.loadsAt_vmem h_S1x2048))
  pure (chunks (k0_pay9 v8) (k0_pay10 v0 v2 v7)) : Prog (TpuEff nD τ sig (Elt F) Λ₀ .tc) _) := by
  rw [k0_part2_eq_skeleton]
  unfold k0_part2_skel fill
  simp only [Prog.lift, Prog.bind_op, Prog.bind_ret]
  congr 1; funext v0; congr 1; funext v2
  split
  · simp only [bind_assoc, pure_bind, chunks, chunk, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    rfl
  · simp only [bind_assoc, pure_bind, chunks, chunk, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]

/-- The printed body is this one. -/
theorem body_eq : cc0__fusion_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0__fusion_kernel_eq_skeleton]
  unfold cc0__fusion_kernel_skel body
  rw [part2_eq]
  simp only [bind_assoc, ← mid_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17]
end

end Cert.KernelIdeal.Sel
-- ==== Proof.Run.lean ====
/- The run: what one grid point's body leaves in its buffers, the invariant that carries the three buffers filled at a
   cloud's first tile over its other tiles, and the launch. At any float values. -/
module

public import proofs.«01_k».proof.Proof.Sel
public import proofs.«01_k».proof.Proof.Gen.KernelIdeal.Frame
public import Idealize.ShloMosaic.Lib.Pipeline.Value

@[expose] public section

set_option maxRecDepth 16384
set_option maxHeartbeats 1000000

noncomputable section

namespace Cert.KernelIdeal.Run

open Cert.KernelIdeal Cert.KernelIdeal.Gen Cert.KernelIdeal.Sel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The pure middle as a value -/

/-- One round of the exact selection: the smallest of each row, and the rows with it replaced by infinity. -/
def round (p : FVec F S512x2048 .f32 × FVec F S512x1 .f32) : FVec F S512x2048 .f32 × FVec F S512x1 .f32 :=
  (k0_pay562 p.1, k0_pay561 p.1)

/-- The rounds of the exact selection from the distances. -/
def rounds (d : FVec F S512x2048 .f32) : FVec F S512x1 .f32 :=
  (Scf.fold (n := Scf.trips k0_t1_loop.lb k0_t1_loop.ub k0_t1_loop.st) (fun _ p => round p) (d, k0_pay560 (F := F))).2

/-- The threshold the body selects by. -/
def thresh (d : FVec F S512x2048 .f32) : FVec F S512x1 .f32 := if ok d (thr d) = 1#1 then thr d else rounds d

/-- The exact selection is sixteen rounds. -/
theorem exact_eq (d : FVec F S512x2048 .f32) : Sel.exact d = .ret (rounds d) := by
  unfold Sel.exact rounds Scf.Loop.for
  exact Scf.for_pure_bind _ _ _ k0_t1_ok (d, k0_pay560 (F := F)) _ (fun _ p => round p) (fun _ _ => rfl) _

/-- The branch is a choice between the two thresholds. -/
theorem pick_eq (v10 : IVec S1x2048 1) (d : FVec F S512x2048 .f32) :
    pick v10 d = .ret ⟨k0_pay563 v10 d (thresh d), k0_pay564 (F := F)⟩ := by
  unfold pick thresh
  split
  · rfl
  · rw [exact_eq]; rfl

/-! ## What the body leaves -/

/-- The two rows of the carried sums that the body reads. -/
abbrev row0 : Rect S8x2048 := Rect.unit (s := S8x2048) ![0, 0] S1x2048.size inb_S8x2048_S1x2048_0_0
abbrev row1 : Rect S8x2048 := Rect.unit (s := S8x2048) ![1, 0] S1x2048.size inb_S8x2048_S1x2048_1_0

/-- The output block of a point, from its tiles, the weights and the carried buffers. -/
def outBlock (x2 : Vec F S1x2048x3 .f32) (x3 : Vec F S1x512x3 .f32) (x4 : Vec F S1x512x256 .f32)
    (x6 : Vec F S256x256 .f32) (x7 : Vec F S1x256 .f32) (x12 : Vec F S256x256 .f32) (x13 : Vec F S1x256 .f32)
    (k v : Vec F S2048x256 .bf16) (r0 r1 : Vec F S1x2048 .f32) : Vec F S1x512x256 .f32 :=
  k0_pay1 (k0_pay565 (k0_pay563 (k0_pay9 r1) (k0_pay10 x2 x3 r0) (thresh (k0_pay10 x2 x3 r0))) k0_pay564 x4 x6 x7 k) v x12 x13

theorem hz2 : (![0, 0] : Fin 2 → Nat) = fun _ => 0 := funext fun a => by fin_cases a <;> rfl
theorem hz3 : (![0, 0, 0] : Fin 3 → Nat) = fun _ => 0 := funext fun a => by fin_cases a <;> rfl

/-- The two carried rows are apart. -/
theorem row0_not_row1 (y : row0.shape.Idx) : row0.emb y ∉ row1.set := by
  intro h
  obtain ⟨x, hx⟩ := row1.exists_idx_of_mem h
  have h0 : 1 + 1 * (x 0).val = 0 + 1 * (y 0).val := congrArg (fun z : S8x2048.Idx => (z 0).val) hx
  have hy : (y 0).val < 1 := (y 0).isLt
  omega

/-- After the two stores, the rows of the carried sums read what was stored. -/
theorem ld_under {sig : RefSig} {κ : Kind} {sp : Space} {S : Shape} (v : View sig κ sp S .f32) (f : v.ty.Contents (Elt F))
    (r0 r1 : Rect S) (h : ∀ y, r0.emb y ∉ r1.set) (p0 : r0.shape.Idx → F .f32) (p1 : r1.shape.Idx → F .f32) :
    View.ld (v.read (Elt F) (v.writes (Elt F) f [⟨r1, p1⟩, ⟨r0, p0⟩])) r0 = p0 := by
  funext y
  show v.read (Elt F) (v.writes (Elt F) f [⟨r1, p1⟩, ⟨r0, p0⟩]) (r0.emb y) = p0 y
  rw [View.read_writes_apply_eq_canon _ _ _ _ ⟨⟨r0, p0⟩, by simp, by rw [← Rect.map_emb_univ]; exact Finset.mem_map_of_mem _ (Finset.mem_univ y)⟩,
    View.canon_cons_of_not_mem _ _ (h y), View.canon_cons_emb]

/-- The row stored last is read back. -/
theorem ld_over {sig : RefSig} {κ : Kind} {sp : Space} {S : Shape} (v : View sig κ sp S .f32) (f : v.ty.Contents (Elt F))
    (r0 r1 : Rect S) (p0 : r0.shape.Idx → F .f32) (p1 : r1.shape.Idx → F .f32) :
    View.ld (v.read (Elt F) (v.writes (Elt F) f [⟨r1, p1⟩, ⟨r0, p0⟩])) r1 = p1 := by
  funext y
  show v.read (Elt F) (v.writes (Elt F) f [⟨r1, p1⟩, ⟨r0, p0⟩]) (r1.emb y) = p1 y
  rw [View.read_writes_apply_eq_canon _ _ _ _ ⟨⟨r1, p1⟩, by simp, by rw [← Rect.map_emb_univ]; exact Finset.mem_map_of_mem _ (Finset.mem_univ y)⟩, View.canon_cons_emb]

section
variable (c : Dev nD) (i : grid0.Coords) (arg2 : Memref sig .tc .vmem S1x2048x3 .f32) (harg2 : arg2.IsWhole) (arg3 : Memref sig .tc .vmem S1x512x3 .f32) (harg3 : arg3.IsWhole) (arg4 : Memref sig .tc .vmem S1x512x256 .f32) (harg4 : arg4.IsWhole) (arg5 : Memref sig .tc .vmem S1x2048x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S1x512x256 .f32) (harg14 : arg14.IsWhole) (arg15 : Memref sig .tc .vmem S2048x256 .bf16) (harg15 : arg15.IsWhole) (arg16 : Memref sig .tc .vmem S2048x256 .bf16) (harg16 : arg16.IsWhole) (arg17 : Memref sig .tc .vmem S8x2048 .f32) (harg17 : arg17.IsWhole)
  (x2 : Vec F S1x2048x3 .f32) (x3 : Vec F S1x512x3 .f32) (x4 : Vec F S1x512x256 .f32) (x5 : Vec F S1x2048x256 .f32) (x6 : Vec F S256x256 .f32) (x7 : Vec F S1x256 .f32) (x8 : Vec F S256x256 .f32) (x9 : Vec F S1x256 .f32) (x10 : Vec F S256x256 .f32) (x11 : Vec F S1x256 .f32) (x12 : Vec F S256x256 .f32) (x13 : Vec F S1x256 .f32)

/-- The condition under which the carried buffers are filled: the point is its cloud's first tile. -/
def first : Prop := Scalar.cmpi .ne (Scalar.extui (Scalar.cmpi .eq (BitVec.ofNat 32 (i 1).val) 0#32) : BitVec 32) 0#32 = 1#1

/-- A point that is not its cloud's first: the carried buffers are read and left. -/
theorem sound_keep (hc : ¬ first i) (k v : Vec F S2048x256 .bf16) (s : Vec F S8x2048 .f32) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ owns (c : Thread nD τ) arg15 fullShare k ∗ owns (c : Thread nD τ) arg16 fullShare v ∗ owns (c : Thread nD τ) arg17 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (outBlock x2 x3 x4 x6 x7 x12 x13 k v (View.ld s row0) (View.ld s row1))
            ∗ owns (c : Thread nD τ) arg15 fullShare k ∗ owns (c : Thread nD τ) arg16 fullShare v ∗ owns (c : Thread nD τ) arg17 fullShare s) -∗ Q ⟨⟩))
      ⊢ wp frame (wpE (defs₀ (F := F)) Variants.none c none) Set.univ
          (cc0__fusion_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [body_eq]
  unfold Sel.body fill
  unfold first at hc
  simp only [if_neg hc, pick_eq, k0_part26_eq_skeleton]
  unfold k0_part26_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, Hk⟩
  subst hf2 hf3 hf4 hf5 hf6 hf7 hf8 hf9 hf10 hf11 hf12 hf13 hf15 hf16 hf17
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    rw [View.read_writes_eq_canon _ _ _ (View.cover_of_tiled _ S1x512x256.size (by rfl))]
    rw [View.canon_unit_zero (S := S1x512x256) hz3]
    simp only [View.readAt_eq_ld, View.ld_unit_zero (S := S1x2048x3) hz3, View.ld_unit_zero (S := S1x512x3) hz3, View.ld_unit_zero (S := S1x512x256) hz3, View.ld_unit_zero (S := S1x2048x256) hz3, View.ld_unit_zero (S := S256x256) hz2, View.ld_unit_zero (S := S1x256) hz2, View.ld_unit_zero (S := S2048x256) hz2]
    rfl
  isplitl [H15]
  · iexists f15; isplitr; · ipureintro; rfl
    iexact H15
  isplitl [H16]
  · iexists f16; isplitr; · ipureintro; rfl
    iexact H16
  iexists f17; isplitr; · ipureintro; rfl
  iexact H17

/-- A cloud's first point: the carried buffers are filled, then read. -/
theorem sound_first (hc : first i) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (outBlock x2 x3 x4 x6 x7 x12 x13 (k0_pay3 x5 x8 x9) (k0_pay4 x5 x10 x11) (k0_pay5 (k0_pay7 x2)) (k0_pay8 (k0_pay2 x5) k0_pay6))
            ∗ owns (c : Thread nD τ) arg15 fullShare (k0_pay3 x5 x8 x9) ∗ owns (c : Thread nD τ) arg16 fullShare (k0_pay4 x5 x10 x11)
            ∗ (∃ s : Vec F S8x2048 .f32, ⌜View.ld s row0 = k0_pay5 (k0_pay7 x2) ∧ View.ld s row1 = k0_pay8 (k0_pay2 x5) k0_pay6⌝ ∗ owns (c : Thread nD τ) arg17 fullShare s)) -∗ Q ⟨⟩))
      ⊢ wp frame (wpE (defs₀ (F := F)) Variants.none c none) Set.univ
          (cc0__fusion_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  rw [body_eq]
  unfold Sel.body fill
  unfold first at hc
  simp only [if_pos hc, pick_eq, k0_part26_eq_skeleton, k0_part1_eq_skeleton]
  unfold k0_part26_skel k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
  subst hf2 hf3 hf4 hf5 hf6 hf7 hf8 hf9 hf10 hf11 hf12 hf13
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    sl_unfold_words
    rw [View.read_writes_eq_canon _ _ _ (View.cover_of_tiled _ S1x512x256.size (by rfl))]
    rw [View.canon_unit_zero (S := S1x512x256) hz3]
    rw [View.readCov_unit_zero (S := S2048x256) _ hz2, View.readCov_unit_zero (S := S2048x256) _ hz2]
    simp only [View.readAt_eq_ld, View.ld_unit_zero (S := S1x2048x3) hz3, View.ld_unit_zero (S := S1x512x3) hz3, View.ld_unit_zero (S := S1x512x256) hz3, View.ld_unit_zero (S := S1x2048x256) hz3, View.ld_unit_zero (S := S256x256) hz2, View.ld_unit_zero (S := S1x256) hz2, View.ld_unit_zero (S := S2048x256) hz2]
    exact congrArg₂ (outBlock _ _ _ _ _ _ _ _ _) (ld_under _ _ row0 row1 row0_not_row1 _ _) (ld_over _ _ row0 row1 _ _)
  isplitl [H15]
  · iexists _; isplitr
    swap; · iexact H15
    ipureintro
    sl_unfold_words
    rw [View.read_writes_eq_canon _ _ _ (View.cover_of_tiled _ S2048x256.size (by rfl))]
    rw [View.canon_unit_zero (S := S2048x256) hz2]
    simp only [View.readAt_eq_ld, View.ld_unit_zero (S := S1x2048x3) hz3, View.ld_unit_zero (S := S1x512x3) hz3, View.ld_unit_zero (S := S1x512x256) hz3, View.ld_unit_zero (S := S1x2048x256) hz3, View.ld_unit_zero (S := S256x256) hz2, View.ld_unit_zero (S := S1x256) hz2, View.ld_unit_zero (S := S2048x256) hz2]
  isplitl [H16]
  · iexists _; isplitr
    swap; · iexact H16
    ipureintro
    sl_unfold_words
    rw [View.read_writes_eq_canon _ _ _ (View.cover_of_tiled _ S2048x256.size (by rfl))]
    rw [View.canon_unit_zero (S := S2048x256) hz2]
    simp only [View.readAt_eq_ld, View.ld_unit_zero (S := S1x2048x3) hz3, View.ld_unit_zero (S := S1x512x3) hz3, View.ld_unit_zero (S := S1x512x256) hz3, View.ld_unit_zero (S := S1x2048x256) hz3, View.ld_unit_zero (S := S256x256) hz2, View.ld_unit_zero (S := S1x256) hz2, View.ld_unit_zero (S := S2048x256) hz2]
  iexists _; isplitr
  swap
  · iexists _; isplitr
    swap; · iexact H17
    ipureintro; rfl
  ipureintro
  sl_unfold_words
  simp only [View.readAt_eq_ld, View.ld_unit_zero (S := S1x2048x256) hz3, View.ld_unit_zero (S := S1x2048x3) hz3]
  exact ⟨ld_under _ _ row0 row1 row0_not_row1 _ _, ld_over _ _ row0 row1 _ _⟩

end

end Cert.KernelIdeal.Run

end
-- ==== Proof.Carried.lean ====
/- The launch: the proof data of the one pipeline — each window's block, the output's block of every point, and the
   invariant that the carried buffers hold what the last cloud entered put there — the body obligation at every point,
   the run, and the frame. At any float values. -/
module

public import proofs.«01_k».proof.Proof.Run

@[expose] public section

set_option maxRecDepth 16384
set_option maxHeartbeats 1000000

noncomputable section

namespace Cert.KernelIdeal.Run

open Cert.KernelIdeal Cert.KernelIdeal.Gen Cert.KernelIdeal.Sel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the cloud of `t`. -/
def head (t : Fin cfg0.N) : Fin cfg0.N := ⟨t.val - t.val % 4, lt_of_le_of_lt (Nat.sub_le _ _) t.isLt⟩

/-- The first tile of a cloud is its own head. -/
theorem head_of_first (t : Fin cfg0.N) (h : first (grid0.coords t)) : head t = t := by
  have : ∀ t : Fin grid0.N, first (grid0.coords t) → t.val % 4 = 0 := by unfold first; decide +kernel
  exact Fin.ext (by show t.val - t.val % 4 = t.val; rw [this t h]; rfl)

/-- A later tile has the head of the tile before. -/
theorem head_of_not_first (t : Fin cfg0.N) (h : ¬ first (grid0.coords t)) :
    ∃ t' : Fin cfg0.N, t.val = t'.val + 1 ∧ head t' = head t := by
  have : ∀ t : Fin grid0.N, ¬ first (grid0.coords t) → t.val % 4 ≠ 0 := by unfold first; decide +kernel
  have h0 := this t h
  have hl := t.isLt
  refine ⟨⟨t.val - 1, by omega⟩, by show t.val = t.val - 1 + 1; omega, Fin.ext ?_⟩
  show t.val - 1 - (t.val - 1) % 4 = t.val - t.val % 4
  omega

/-- What the carried buffers hold after a point of the cloud entered at `t`. -/
def keyAt (c : Dev nD) (t : Fin cfg0.N) : Vec F S2048x256 .bf16 := k0_pay3 (iblk m c 3 t) (iblk m c 6 t) (iblk m c 7 t)
def valAt (c : Dev nD) (t : Fin cfg0.N) : Vec F S2048x256 .bf16 := k0_pay4 (iblk m c 3 t) (iblk m c 8 t) (iblk m c 9 t)
def sqAt (c : Dev nD) (t : Fin cfg0.N) : Vec F S1x2048 .f32 := k0_pay5 (k0_pay7 (iblk m c 0 t))
def sumAt (c : Dev nD) (t : Fin cfg0.N) : Vec F S1x2048 .f32 := k0_pay8 (k0_pay2 (iblk m c 3 t)) k0_pay6

/-- The output's block of point `t`. -/
def outAt (c : Dev nD) (t : Fin cfg0.N) : Vec F S1x512x256 .f32 :=
  outBlock (iblk m c 0 t) (iblk m c 1 t) (iblk m c 2 t) (iblk m c 4 t) (iblk m c 5 t) (iblk m c 10 t) (iblk m c 11 t)
    (keyAt m c (head t)) (valAt m c (head t)) (sqAt m c (head t)) (sumAt m c (head t))

/-- What is known of the carried buffers before point `n`: after a point, they hold its cloud's. -/
def known (c : Dev nD) (n : ℕ) (k v : Vec F S2048x256 .bf16) (s : Vec F S8x2048 .f32) : Prop :=
  ∀ t : Fin cfg0.N, n = t.val + 1 → k = keyAt m c (head t) ∧ v = valAt m c (head t)
    ∧ View.ld s row0 = sqAt m c (head t) ∧ View.ld s row1 = sumAt m c (head t)

/-- The invariant before point `n`. -/
def inv (c : Dev nD) (n : ℕ) : sProp 𝕄 :=
  iprop((∃ (k v : Vec F S2048x256 .bf16) (s : Vec F S8x2048 .f32), ⌜known m c n k v s⌝
      ∗ owns (c : Thread nD τ) (Memref.whole cc0_scratch0) fullShare k
      ∗ owns (c : Thread nD τ) (Memref.whole cc0_scratch1) fullShare v
      ∗ owns (c : Thread nD τ) (Memref.whole cc0_scratch2) fullShare s) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := inv m c t.val
  q := Pipeline.shareOf spec0
  owed _ := 0

/-- The arrays enter the grid with what the lines before it leave. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation -/

/-- What the body is called with at point `t`, and what it returns. -/
def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop(inv m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- What is known of the scratch passes to the next grid point. -/
theorem known_succ (c : Dev nD) (t : Fin cfg0.N) (k v : Vec F S2048x256 .bf16) (s : Vec F S8x2048 .f32)
    (h : k = keyAt m c (head t) ∧ v = valAt m c (head t)
      ∧ View.ld s row0 = sqAt m c (head t) ∧ View.ld s row1 = sumAt m c (head t)) : known m c (t.val + 1) k v s := by
  intro t' ht
  obtain rfl : t = t' := Fin.ext (by omega)
  exact h

/-- The body at a grid point: from what the grid point finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 inv
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  iintro ⟨⟨⟨%k, %v, %s, %hk, K0, K1, K2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases hf : first (grid0.coords t)
  · iapply (sound_first c (grid0.coords t) _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) hf _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [K0]; · iexists _; iexact K0
    isplitl [K1]; · iexists _; iexact K1
    isplitl [K2]; · iexists _; iexact K2
    iintro ⟨H0, H1, H2, H3, H4, H5, H6, H7, H8, H9, H10, H11, H12, K0, K1, ⟨%s', %hs, K2⟩⟩
    isplitl [K0 K1 K2 HP]
    · isplitr [HP]
      · iexists _; iexists _; iexists s'
        isplitr
        swap
        · isplitl [K0]; · iexact K0
          isplitl [K1]; · iexact K1
          iexact K2
        ipureintro
        refine known_succ m c t _ _ _ ?_
        rw [head_of_first t hf]
        exact ⟨rfl, rfl, hs.1, hs.2⟩
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold outAt
    rw [head_of_first t hf]
    iexact H12
  · iapply (sound_keep c (grid0.coords t) _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) hf k v s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [K0]; · iexact K0
    isplitl [K1]; · iexact K1
    isplitl [K2]; · iexact K2
    iintro ⟨H0, H1, H2, H3, H4, H5, H6, H7, H8, H9, H10, H11, H12, K0, K1, K2⟩
    obtain ⟨t', ht, hh⟩ := head_of_not_first t hf
    have hk' := hk t' ht
    rw [hh] at hk'
    isplitl [K0 K1 K2 HP]
    · isplitr [HP]
      · iexists k; iexists v; iexists s
        isplitr
        swap
        · isplitl [K0]; · iexact K0
          isplitl [K1]; · iexact K1
          iexact K2
        ipureintro
        exact known_succ m c t _ _ _ hk'
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold outAt
    rw [← hk'.1, ← hk'.2.1, ← hk'.2.2.1, ← hk'.2.2.2]
    iexact H12

theorem defs₀_row (t : Fin cfg0.N) :
    defs₀ (F := F) .tc cfg0.body (cfg0.bodyArgs t (cfg0.slots t)) = bodyAt0 t := by
  unfold defs₀; rw [Defs.onTc_tc]

/-- The body at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first grid point nothing is asked of the scratch. -/
theorem inv_in (c : Dev nD) : Pipeline.ΦA spec0 c ⊢ (dats (F := F) m 0 c).Φ 0 := by
  show Pipeline.ΦA spec0 c ⊢ inv m c 0
  unfold Pipeline.ΦA inv
  rw [scopedRest0_eq]
  simp only [owns_whole_eq]
  iintro ⟨⟨⟨%f0, H0⟩, ⟨%f1, H1⟩, ⟨%f2, H2⟩⟩, HP⟩
  isplitr [HP]
  · iexists f0; iexists f1; iexists f2
    isplitr
    · ipureintro
      intro t ht
      exact absurd ht (by omega)
    isplitl [H0]; · iexists f0; isplitr; · ipureintro; rfl
                    iexact H0
    isplitl [H1]; · iexists f1; isplitr; · ipureintro; rfl
                    iexact H1
    iexists f2; isplitr; · ipureintro; rfl
    iexact H2
  iexact HP

/-- After the last grid point the scratch is given back. -/
theorem inv_out (c : Dev nD) : (dats (F := F) m 0 c).Φ (Fin.last cfg0.N) ⊢ Pipeline.ΦA spec0 c := by
  show inv m c cfg0.N ⊢ Pipeline.ΦA spec0 c
  unfold Pipeline.ΦA inv
  rw [scopedRest0_eq]
  simp only [owns_whole_eq]
  iintro ⟨⟨%k, %v, %s, -, ⟨%f0, -, H0⟩, ⟨%f1, -, H1⟩, ⟨%f2, -, H2⟩⟩, HP⟩
  isplitr [HP]
  · isplitl [H0]; · iexists f0; iexact H0
    isplitl [H1]; · iexists f1; iexact H1
    iexists f2; iexact H2
  iexact HP

-- the launch theorem's implicit arguments are found by unifying its conclusion with this one, which takes unfolding
-- plain definitions in the types of its metavariables
set_option backward.isDefEq.respectTransparency.types false in
/-- The launch. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The run of the kernel: the arrays and every other buffer at the end. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Run

end
-- ==== Proof.Frames.lean ====
/- The frames: the arguments end unchanged and every counter at zero, of the kernel at its words and at the extended
   reals by one run, and of the reference. -/
module

public import proofs.«01_k».proof.Defs
public import proofs.«01_k».proof.Proof.Gen.Kernel
public import proofs.«01_k».proof.Proof.Gen.ReferenceIdeal.Run
public import proofs.«01_k».proof.Proof.Carried
public import Idealize.ShloMosaic.Lib.Claim

@[expose] public section

noncomputable section

namespace Cert.Proof

open Idealize.ShloMosaic Idealize.SL.Sem

section
open Cert.KernelIdeal

/-- The kernel's run at any float values: the arguments unchanged and the counters at zero. -/
theorem run_frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (Gen.frame_of m ρ (Run.dats m) (Run.A_eq m) (Run.run_main m ρ))
    ((θ_run defs _ _).mono (fun _ h => h.2) (Run.run_main_quiescent m ρ))

end

/-- The kernel and its idealization are one program: no operation was rewritten. -/
theorem kernel_body_eq : Cert.Kernel.cc0__fusion_kernel (F := Bits) = Cert.KernelIdeal.cc0__fusion_kernel (F := Bits) := by
  unfold Cert.Kernel.cc0__fusion_kernel Cert.KernelIdeal.cc0__fusion_kernel
  rfl

/-- The two programs have the same bodies. -/
theorem kernel_bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    show Cert.Kernel.cc0__fusion_kernel (F := Bits) _ _ _ _ _ _ _ _ _ _ _ _ _ _ _ _ _ _ _ _ _ _ _ _ _ _ _ _ _ _ _ _ _ = _
    rw [kernel_body_eq]
    rfl

/-- The two programs have the same definitions. -/
theorem kernel_defs_eq : Cert.Kernel.defs (F := Bits) = Cert.KernelIdeal.defs (F := Bits) := by
  unfold Cert.Kernel.defs Cert.KernelIdeal.defs
  rw [kernel_bodies_eq]
  rfl

/-- The frame of the kernel, from the one run at its words. -/
theorem frame_kernel : Cert.quiescent_Kernel := fun m ρ _ => by
  rw [kernel_defs_eq]
  exact (θ_run Cert.KernelIdeal.defs _ _).mono (fun _ h => h) (run_frame (F := Bits) m ρ)

/-- The frame of the idealized kernel, from the one run at the extended reals. -/
theorem frame_kernelIdeal : Cert.quiescent_KernelIdeal := fun m ρ _ =>
  (θ_run Cert.KernelIdeal.defs _ _).mono (fun _ h => h) (run_frame (F := Ideal) m ρ)

/-- The frame of the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Lane.lean ====
/- Extended reals, one lane at a time: the sorting networks over a lane's sixteen distances, and the pops of the row of
   lanes. What they keep: the heads of a lane are sorted, and no bound has more heads under it than distances. -/
module

public import Idealize.ShloMosaic.Lib.Pointwise

@[expose] public section

noncomputable section

namespace Cert.Knn

/-- One where the value is at most the bound. -/
def under (x a : EReal) : ℕ := if a ≤ x then 1 else 0

/-- The four heads of a lane. -/
abbrev Four := EReal × EReal × EReal × EReal

/-- How many of the four are at most the bound. -/
def Four.under (x : EReal) (a : Four) : ℕ := Knn.under x a.1 + Knn.under x a.2.1 + Knn.under x a.2.2.1 + Knn.under x a.2.2.2

/-- The four in order. -/
def Four.Sorted (a : Four) : Prop := a.1 ≤ a.2.1 ∧ a.2.1 ≤ a.2.2.1 ∧ a.2.2.1 ≤ a.2.2.2

/-- Comparing and exchanging two entries keeps the number under a bound. -/
theorem under_min_max (x a b : EReal) : under x (min a b) + under x (max a b) = under x a + under x b := by
  rcases le_total a b with h | h
  · rw [min_eq_left h, max_eq_right h]
  · rw [min_eq_right h, max_eq_left h, Nat.add_comm]

/-- The smaller of two entries counts no more than both. -/
theorem under_min_le (x a b : EReal) : under x (min a b) ≤ under x a + under x b := by
  have := under_min_max x a b
  omega

/-- Four values sorted by five comparisons. -/
def sort4 (a b c d : EReal) : Four :=
  (min (min a b) (min c d), min (max (min a b) (min c d)) (min (max a b) (max c d)),
    max (max (min a b) (min c d)) (min (max a b) (max c d)), max (max a b) (max c d))

/-- The network of four sorts. -/
theorem sort4_sorted (a b c d : EReal) : (sort4 a b c d).Sorted := by
  refine ⟨le_min (min_le_max) (le_min ?_ ?_), min_le_max, max_le (max_le ?_ ?_) min_le_max⟩
  · exact (min_le_left _ _).trans min_le_max
  · exact (min_le_right _ _).trans min_le_max
  · exact (min_le_max).trans (le_max_left _ _)
  · exact (min_le_max).trans (le_max_right _ _)

/-- The network of four keeps the number under a bound. -/
theorem sort4_under (x a b c d : EReal) : (sort4 a b c d).under x = under x a + under x b + under x c + under x d := by
  have h1 := under_min_max x a b
  have h2 := under_min_max x c d
  have h3 := under_min_max x (min a b) (min c d)
  have h4 := under_min_max x (max a b) (max c d)
  have h5 := under_min_max x (max (min a b) (min c d)) (min (max a b) (max c d))
  unfold Four.under sort4
  dsimp only
  omega

/-- The four smallest of two sorted fours: a bitonic merge. -/
def bottom4 (a b : Four) : Four :=
  (min (min (min a.1 b.2.2.2) (min a.2.2.1 b.2.1)) (min (min a.2.1 b.2.2.1) (min a.2.2.2 b.1)),
    max (min (min a.1 b.2.2.2) (min a.2.2.1 b.2.1)) (min (min a.2.1 b.2.2.1) (min a.2.2.2 b.1)),
    min (max (min a.1 b.2.2.2) (min a.2.2.1 b.2.1)) (max (min a.2.1 b.2.2.1) (min a.2.2.2 b.1)),
    max (max (min a.1 b.2.2.2) (min a.2.2.1 b.2.1)) (max (min a.2.1 b.2.2.1) (min a.2.2.2 b.1)))

/-- The merge of two sorted fours is sorted. -/
theorem bottom4_sorted (a b : Four) (ha : a.Sorted) (hb : b.Sorted) : (bottom4 a b).Sorted := by
  obtain ⟨ha0, ha1, ha2⟩ := ha
  obtain ⟨hb0, hb1, hb2⟩ := hb
  refine ⟨min_le_max, max_le (le_min min_le_max ?_) (le_min ?_ min_le_max), min_le_max⟩
  · refine le_trans (le_min ?_ ?_) (le_max_left _ _)
    · exact (min_le_left _ _).trans ((min_le_left _ _).trans ha0)
    · exact (min_le_right _ _).trans ((min_le_right _ _).trans hb1)
  · refine le_trans (le_min ?_ ?_) (le_max_right _ _)
    · exact (min_le_left _ _).trans ((min_le_left _ _).trans ha1)
    · exact (min_le_right _ _).trans ((min_le_right _ _).trans hb0)

/-- The merge keeps four of eight, so no more of them are under a bound. -/
theorem bottom4_under (x : EReal) (a b : Four) : (bottom4 a b).under x ≤ a.under x + b.under x := by
  have h0 := under_min_le x a.1 b.2.2.2
  have h1 := under_min_le x a.2.1 b.2.2.1
  have h2 := under_min_le x a.2.2.1 b.2.1
  have h3 := under_min_le x a.2.2.2 b.1
  have h4 := under_min_max x (min a.1 b.2.2.2) (min a.2.2.1 b.2.1)
  have h5 := under_min_max x (min a.2.1 b.2.2.1) (min a.2.2.2 b.1)
  have h6 := under_min_max x (min (min a.1 b.2.2.2) (min a.2.2.1 b.2.1)) (min (min a.2.1 b.2.2.1) (min a.2.2.2 b.1))
  have h7 := under_min_max x (max (min a.1 b.2.2.2) (min a.2.2.1 b.2.1)) (max (min a.2.1 b.2.2.1) (min a.2.2.2 b.1))
  unfold Four.under bottom4
  dsimp only
  omega

/-- The four smallest of sixteen. -/
def heads (f : Fin 16 → EReal) : Four :=
  bottom4 (bottom4 (sort4 (f 0) (f 1) (f 2) (f 3)) (sort4 (f 4) (f 5) (f 6) (f 7)))
    (bottom4 (sort4 (f 8) (f 9) (f 10) (f 11)) (sort4 (f 12) (f 13) (f 14) (f 15)))

/-- The heads of a lane are sorted. -/
theorem heads_sorted (f : Fin 16 → EReal) : (heads f).Sorted :=
  bottom4_sorted _ _ (bottom4_sorted _ _ (sort4_sorted ..) (sort4_sorted ..)) (bottom4_sorted _ _ (sort4_sorted ..) (sort4_sorted ..))

/-- No more heads of a lane are under a bound than entries of it. -/
theorem heads_under (x : EReal) (f : Fin 16 → EReal) : (heads f).under x ≤ ∑ g, under x (f g) := by
  have h1 := bottom4_under x (bottom4 (sort4 (f 0) (f 1) (f 2) (f 3)) (sort4 (f 4) (f 5) (f 6) (f 7)))
    (bottom4 (sort4 (f 8) (f 9) (f 10) (f 11)) (sort4 (f 12) (f 13) (f 14) (f 15)))
  have h2 := bottom4_under x (sort4 (f 0) (f 1) (f 2) (f 3)) (sort4 (f 4) (f 5) (f 6) (f 7))
  have h3 := bottom4_under x (sort4 (f 8) (f 9) (f 10) (f 11)) (sort4 (f 12) (f 13) (f 14) (f 15))
  rw [sort4_under, sort4_under] at h2 h3
  unfold heads
  simp only [Fin.sum_univ_succ, Fin.succ_zero_eq_one, Finset.univ_eq_empty, Finset.sum_empty]
  refine h1.trans ((Nat.add_le_add h2 h3).trans (le_of_eq ?_))
  show _ = under x (f 0) + (under x (f 1) + (under x (f 2) + (under x (f 3) + (under x (f 4) + (under x (f 5) + (under x (f 6)
    + (under x (f 7) + (under x (f 8) + (under x (f 9) + (under x (f 10) + (under x (f 11) + (under x (f 12) + (under x (f 13)
    + (under x (f 14) + (under x (f 15) + 0)))))))))))))))
  omega

/-! ## The pops of a row -/

/-- The heads of every lane of a row. -/
abbrev Row := Fin 128 → Four

/-- The smallest first head. -/
def Row.least (s : Row) : EReal := Finset.univ.inf fun l => (s l).1

/-- One pop: where the first head is the row's smallest, the heads move up by one. -/
def Row.pop (s : Row) : Row := fun l =>
  if (s l).1 ≤ s.least then ((s l).2.1, (s l).2.2.1, (s l).2.2.2, ⊤) else s l

/-- Some lane has the least head. -/
theorem Row.least_attained (s : Row) : ∃ l, (s l).1 = s.least := by
  obtain ⟨l, -, h⟩ := Finset.exists_mem_eq_inf Finset.univ ⟨(0 : Fin 128), Finset.mem_univ _⟩ fun l => (s l).1
  exact ⟨l, h.symm⟩

/-- The least head is at most every head. -/
theorem Row.least_le (s : Row) (l : Fin 128) : s.least ≤ (s l).1 := Finset.inf_le (Finset.mem_univ l)

/-- A pop leaves the lanes sorted. -/
theorem Row.pop_sorted (s : Row) (hs : ∀ l, (s l).Sorted) (l : Fin 128) : (s.pop l).Sorted := by
  unfold Row.pop
  split
  · exact ⟨(hs l).2.1, (hs l).2.2, le_top⟩
  · exact hs l

/-- A pop does not lower the least head. -/
theorem Row.least_le_pop (s : Row) (hs : ∀ l, (s l).Sorted) : s.least ≤ s.pop.least := by
  refine Finset.le_inf fun l _ => (s.least_le l).trans ?_
  unfold Row.pop
  split
  · exact (hs l).1
  · exact le_refl _

/-- A pop takes away an entry under any bound, other than infinity, that the least head is under. -/
theorem Row.pop_under (s : Row) (x : EReal) (hx : x < ⊤) (h : s.least ≤ x) :
    (∑ l, (s.pop l).under x) + 1 ≤ ∑ l, (s l).under x := by
  obtain ⟨k, hk⟩ := s.least_attained
  have htop : Knn.under x ⊤ = 0 := if_neg (not_le.mpr hx)
  have hle : ∀ l, (s.pop l).under x ≤ (s l).under x := fun l => by
    unfold Row.pop
    split
    · unfold Four.under; dsimp only; rw [htop]; omega
    · exact le_refl _
  have hlt : (s.pop k).under x < (s k).under x := by
    have h1 : Knn.under x (s k).1 = 1 := if_pos (hk.trans_le h)
    unfold Row.pop
    rw [if_pos (le_of_eq hk)]
    unfold Four.under; dsimp only; rw [htop, h1]; omega
  exact Nat.succ_le_of_lt (Finset.sum_lt_sum (fun l _ => hle l) ⟨k, Finset.mem_univ k, hlt⟩)

/-- After `n` pops the smallest first head has at least `n + 1` heads under it, if it is below infinity. -/
theorem Row.pops (n : ℕ) : ∀ (s : Row), (∀ l, (s l).Sorted) → (Row.pop^[n] s).least < ⊤ →
    s.least ≤ (Row.pop^[n] s).least ∧ n + 1 ≤ ∑ l, (s l).under (Row.pop^[n] s).least := by
  induction n with
  | zero =>
    intro s _ _
    refine ⟨le_refl _, ?_⟩
    obtain ⟨k, hk⟩ := s.least_attained
    have h1 : 1 ≤ (s k).under s.least := by
      have : Knn.under s.least (s k).1 = 1 := if_pos (le_of_eq hk)
      unfold Four.under; omega
    exact h1.trans (Finset.single_le_sum (f := fun l => (s l).under s.least) (fun _ _ => Nat.zero_le _) (Finset.mem_univ k))
  | succ n ih =>
    intro s hs ht
    rw [Function.iterate_succ_apply] at ht ⊢
    obtain ⟨h1, h2⟩ := ih s.pop (s.pop_sorted hs) ht
    have h3 := (s.least_le_pop hs).trans h1
    exact ⟨h3, le_trans (by omega) (s.pop_under _ ht h3)⟩

end Cert.Knn
-- ==== Proof.Near.lean ====
/- A row of distances whose seventeen smallest are strictly increasing: a bound with exactly sixteen distances under
   it, and the bound sixteen rounds of taking out the smallest leave, both select the sixteen nearest. -/
module

public import proofs.«01_k».proof.Proof.Lane

@[expose] public section

noncomputable section

namespace Cert.Knn

/-- The place in the order of each of the first sixteen, and the next. -/
abbrev at16 (k : Fin 16) : Fin 2048 := k.castLE (by decide)

/-- The order sorts the row, strictly up to the seventeenth. -/
structure Ordered (d : Fin 2048 → EReal) (σ : Fin 2048 → Fin 2048) : Prop where
  bij : Function.Bijective σ
  mono : ∀ i j, i < j → d (σ i) ≤ d (σ j)
  strict : ∀ i : Fin 2048, i.val < 16 → ∀ j, i < j → d (σ i) < d (σ j)

/-- The number of distances at most the bound. -/
def below (d : Fin 2048 → EReal) (x : EReal) : ℕ := ∑ j, under x (d j)

/-- The count as the size of a set. -/
theorem below_eq_card (d : Fin 2048 → EReal) (x : EReal) : below d x = (Finset.univ.filter fun j => d j ≤ x).card := by
  unfold below under
  rw [Finset.card_filter]

variable {d : Fin 2048 → EReal} {σ : Fin 2048 → Fin 2048}

/-- The order sorts the whole row. -/
theorem Ordered.mono' (h : Ordered d σ) (i j : Fin 2048) (hij : i ≤ j) : d (σ i) ≤ d (σ j) := by
  rcases hij.lt_or_eq with h' | h'
  · exact h.mono i j h'
  · rw [h']

/-- The sixteen nearest are below infinity. -/
theorem Ordered.lt_top (h : Ordered d σ) (i : Fin 2048) (hi : i.val < 16) : d (σ i) < ⊤ :=
  (h.strict i hi ⟨16, by decide⟩ (by show i.val < 16; exact hi)).trans_le le_top

/-- A bound with exactly sixteen distances under it selects the sixteen nearest. -/
theorem Ordered.select (h : Ordered d σ) (x : EReal) (hx : below d x = 16) (j : Fin 2048) :
    d j ≤ x ↔ ∃ k : Fin 16, σ (at16 k) = j := by
  rw [below_eq_card] at hx
  have hsub : ∀ j, d j ≤ x → ∃ k : Fin 16, σ (at16 k) = j := by
    intro j hj
    obtain ⟨i, rfl⟩ := h.bij.2 j
    by_contra hne
    have hi : 16 ≤ i.val := by
      by_contra hlt
      exact hne ⟨⟨i.val, by omega⟩, rfl⟩
    have hcard : ((Finset.univ : Finset (Fin 17)).image fun k : Fin 17 => σ (k.castLE (by decide))).card = 17 := by
      rw [Finset.card_image_of_injective, Finset.card_univ, Fintype.card_fin]
      intro a b hab
      have := h.bij.1 hab
      exact Fin.ext (by simpa using congrArg Fin.val this)
    have hle : ((Finset.univ : Finset (Fin 17)).image fun k : Fin 17 => σ (k.castLE (by decide))) ⊆
        Finset.univ.filter fun j => d j ≤ x := by
      intro y hy
      obtain ⟨k, -, rfl⟩ := Finset.mem_image.mp hy
      refine Finset.mem_filter.mpr ⟨Finset.mem_univ _, le_trans (h.mono' _ _ ?_) hj⟩
      have := k.isLt
      show k.val ≤ i.val
      omega
    have := Finset.card_le_card hle
    omega
  refine ⟨hsub j, ?_⟩
  have hinj : ((Finset.univ : Finset (Fin 16)).image fun k : Fin 16 => σ (at16 k)).card = 16 := by
    rw [Finset.card_image_of_injective, Finset.card_univ, Fintype.card_fin]
    intro a b hab
    have := h.bij.1 hab
    exact Fin.ext (by simpa using congrArg Fin.val this)
  have heq : (Finset.univ.filter fun j => d j ≤ x) = (Finset.univ : Finset (Fin 16)).image fun k : Fin 16 => σ (at16 k) := by
    refine Finset.eq_of_subset_of_card_le (fun y hy => ?_) (by rw [hinj, hx])
    obtain ⟨k, hk⟩ := hsub y (Finset.mem_filter.mp hy).2
    exact Finset.mem_image.mpr ⟨k, Finset.mem_univ _, hk⟩
  rintro ⟨k, rfl⟩
  have : σ (at16 k) ∈ Finset.univ.filter fun j => d j ≤ x := by
    rw [heq]; exact Finset.mem_image.mpr ⟨k, Finset.mem_univ _, rfl⟩
  exact (Finset.mem_filter.mp this).2

/-! ## The rounds -/

/-- The row with its smallest replaced by infinity. -/
def drop (c : Fin 2048 → EReal) : Fin 2048 → EReal := fun j => if c j ≤ Finset.univ.inf c then ⊤ else c j

/-- The row with the `n` nearest at infinity. -/
theorem Ordered.drops (h : Ordered d σ) (n : ℕ) (hn : n ≤ 16) (i : Fin 2048) :
    drop^[n] d (σ i) = if i.val < n then ⊤ else d (σ i) := by
  induction n generalizing i with
  | zero => simp
  | succ n ih =>
    have ih := fun i => ih (by omega) i
    rw [Function.iterate_succ_apply']
    have hleast : Finset.univ.inf (drop^[n] d) = d (σ ⟨n, by omega⟩) := by
      refine le_antisymm ((Finset.inf_le (Finset.mem_univ (σ ⟨n, by omega⟩))).trans_eq ?_) (Finset.le_inf fun j _ => ?_)
      · rw [ih]; exact if_neg (lt_irrefl n)
      · obtain ⟨i, rfl⟩ := h.bij.2 j
        rw [ih]
        split
        · exact le_top
        · exact h.mono' _ _ (by show n ≤ i.val; omega)
    show (if drop^[n] d (σ i) ≤ Finset.univ.inf (drop^[n] d) then ⊤ else drop^[n] d (σ i)) = _
    rw [hleast, ih]
    rcases Nat.lt_trichotomy i.val n with hi | hi | hi
    · rw [if_pos hi, if_pos (by omega : i.val < n + 1)]
      split <;> rfl
    · have : i = ⟨n, by omega⟩ := Fin.ext hi
      rw [if_neg (by omega : ¬ i.val < n), if_pos (by rw [this]), if_pos (by omega : i.val < n + 1)]
    · rw [if_neg (by omega : ¬ i.val < n), if_neg (by omega : ¬ i.val < n + 1),
        if_neg (not_le.mpr (h.strict ⟨n, by omega⟩ (by show n < 16; omega) i (by show n < i.val; exact hi)))]

/-- The smallest at the sixteenth round is the sixteenth smallest. -/
theorem Ordered.round16 (h : Ordered d σ) : Finset.univ.inf (drop^[15] d) = d (σ ⟨15, by decide⟩) := by
  refine le_antisymm ((Finset.inf_le (Finset.mem_univ (σ ⟨15, by decide⟩))).trans_eq ?_) (Finset.le_inf fun j _ => ?_)
  · rw [h.drops 15 (by decide)]; exact if_neg (lt_irrefl 15)
  · obtain ⟨i, rfl⟩ := h.bij.2 j
    rw [h.drops 15 (by decide)]
    split
    · exact le_top
    · exact h.mono' _ _ (by show 15 ≤ i.val; omega)

/-- The sixteenth smallest selects the sixteen nearest. -/
theorem Ordered.select16 (h : Ordered d σ) (j : Fin 2048) :
    d j ≤ d (σ ⟨15, by decide⟩) ↔ ∃ k : Fin 16, σ (at16 k) = j := by
  obtain ⟨i, rfl⟩ := h.bij.2 j
  constructor
  · intro hle
    refine ⟨⟨i.val, ?_⟩, rfl⟩
    by_contra hi
    exact absurd hle (not_le.mpr (h.strict ⟨15, by decide⟩ (by decide) i (by show 15 < i.val; omega)))
  · rintro ⟨k, hk⟩
    rw [← hk]
    exact h.mono' _ _ (by have := k.isLt; show k.val ≤ 15; omega)

/-! ## The threshold of the heads -/

/-- The lanes' heads. -/
def headRow (d : Fin 2048 → EReal) : Row := fun l => heads fun g => d ⟨g.val * 128 + l.val, by omega⟩

/-- The bound fifteen pops leave. -/
def popped (d : Fin 2048 → EReal) : EReal := (Row.pop^[15] (headRow d)).least

/-- A sum over the lanes and their entries is the sum over the row. -/
theorem sum_lanes (f : Fin 2048 → ℕ) : ∑ l : Fin 128, ∑ g : Fin 16, f ⟨g.val * 128 + l.val, by omega⟩ = ∑ j, f j := by
  rw [Finset.sum_comm]
  exact (Idealize.ShloMosaic.Fin.sum_univ_tiles 16 128 rfl f).symm

/-- At least sixteen distances are at most it. -/
theorem below_popped (d : Fin 2048 → EReal) : 16 ≤ below d (popped d) := by
  by_cases ht : popped d < ⊤
  · have h := ((headRow d).pops 15 (fun l => heads_sorted _) ht).2
    refine h.trans (le_trans (Finset.sum_le_sum fun l _ => heads_under _ _) (le_of_eq ?_))
    exact sum_lanes fun j => under (popped d) (d j)
  · have ht : popped d = ⊤ := not_lt_top_iff.mp ht
    have : below d (popped d) = 2048 := by
      rw [below_eq_card, ht, Finset.filter_true_of_mem fun j _ => le_top, Finset.card_univ, Fintype.card_fin]
    omega

end Cert.Knn
-- ==== Proof.Order.lean ====
/- The order a top-k of the negated distances takes its indices in, and the row it leaves ordered. -/
module

public import proofs.«01_k».proof.Proof.Near
public import Idealize.ShloMosaic.Lib.Pointwise
public import Idealize.ShloMosaic.Lib.SortFacts

@[expose] public section

noncomputable section

namespace Cert.Knn

open Idealize.ShloMosaic

/-- A row, greatest first, equal ones in the order they stand. -/
def order (x : Fin 2048 → EReal) : Fin 2048 → Fin 2048 :=
  sortedFrom fun k k' => FloatOps.cmpfTotal (F := Ideal) (φ := .f32) .gt (x k) (x k') == 1#1

/-- The stack of rows a top-k sorts. -/
abbrev Stack : Shape := ⟨3, ![8, 2048, 2048]⟩

abbrev Stack.row (x : Stack.Idx → EReal) (b : Fin 8) (i : Fin 2048) : Fin 2048 → EReal := fun j => x (ix3 b i j)

variable {n : ℕ}

/-- An index along the last axis. -/
theorem along_ix (b : Fin 8) (i j k : Fin 2048) :
    Shape.Idx.along (s := Stack) (ix3 b i j) (2 : Fin 3) k = ix3 b i k := by
  funext a
  fin_cases a <;> rfl

/-- A read along the last axis. -/
theorem taken (x : Stack.Idx → EReal) (b : Fin 8) (i j : Fin 2048) (at' : Fin 2048 → Stack.Idx)
    (h : at' = fun k => ix3 b i k) :
    at' (sortedFrom (fun k k' =>
      FloatOps.cmpfTotal (F := Ideal) (φ := .f32) .gt (x (at' k)) (x (at' k')) == 1#1) j)
      = ix3 b i (order (Stack.row x b i) j) := by
  subst h
  rfl

/-- The numbers along the last axis. -/
theorem iota_at (b : Fin 8) (i j : Fin 2048) :
    iotaInDim Stack 32 (2 : Fin 3) (ix3 b i j) = BitVec.ofNat 32 j.val := rfl

/-- The first entries of the last axis. -/
theorem topK_slice (b : Fin 8) (i : Fin 2048) (k : Fin n) (h : Stack.Slices (fun _ => 0) ⟨3, ![8, 2048, n]⟩) :
    (fun a => ⟨0 + ((ix3 b i k : (⟨3, ![8, 2048, n]⟩ : Shape).Idx) (a.cast h.1.symm)).val,
      Nat.lt_of_lt_of_le (Nat.add_lt_add_left ((ix3 b i k : (⟨3, ![8, 2048, n]⟩ : Shape).Idx) _).isLt _) (h.2 a)⟩
      : Stack.Idx) = ix3 b i (k.castLE (by simpa using h.2 2)) := by
  funext a
  refine Fin.ext ?_
  fin_cases a <;> exact Nat.zero_add _

/-- The indices that `top_k` gives are the order of the row. -/
theorem topK_index (x : Stack.Idx → EReal) (b : Fin 8) (i : Fin 2048) (k : Fin n)
    (h : Stack.Slices (fun _ => 0) ⟨3, ![8, 2048, n]⟩) :
    (Host.topK ⟨3, ![8, 2048, n]⟩ 2 (FloatOps.cmpfTotal (F := Ideal) (φ := .f32) .gt) x h).2 (ix3 b i k)
      = BitVec.ofNat 32 (order (Stack.row x b i) (k.castLE (by simpa using h.2 2))).val := by
  unfold Host.topK Host.sort2 extractStridedSlice
  dsimp only
  rw [topK_slice b i k h, dif_pos (show 2 < Stack.rank by decide)]
  exact (congrArg (iotaInDim Stack 32 (2 : Fin 3))
    (taken x b i _ (Shape.Idx.along (s := Stack) (ix3 b i _) (2 : Fin 3)) (funext fun _ => along_ix b i _ _))).trans
    (iota_at b i _)

/-- The values that `top_k` gives are the row in its order. -/
theorem topK_value (x : Stack.Idx → EReal) (b : Fin 8) (i : Fin 2048) (k : Fin n)
    (h : Stack.Slices (fun _ => 0) ⟨3, ![8, 2048, n]⟩) :
    (Host.topK ⟨3, ![8, 2048, n]⟩ 2 (FloatOps.cmpfTotal (F := Ideal) (φ := .f32) .gt) x h).1 (ix3 b i k)
      = x (ix3 b i (order (Stack.row x b i) (k.castLE (by simpa using h.2 2)))) := by
  unfold Host.topK Host.sort2 extractStridedSlice
  dsimp only
  rw [topK_slice b i k h, dif_pos (show 2 < Stack.rank by decide)]
  exact congrArg x
    (taken x b i _ (Shape.Idx.along (s := Stack) (ix3 b i _) (2 : Fin 3)) (funext fun _ => along_ix b i _ _))

/-- The comparison that `top_k` sorts by. -/
theorem before_iff (x y : EReal) :
    (FloatOps.cmpfTotal (F := Ideal) (φ := .f32) .gt x y == 1#1) = decide (y < x) := by
  show (BitVec.ofBool (decide (y < x)) == 1#1) = _
  cases decide (y < x) <;> rfl

/-- The order as the one that sorts downwards. -/
theorem order_eq (x : Fin 2048 → EReal) : order x = sortedFrom fun k k' => decide (x k' < x k) := by
  unfold order
  simp only [before_iff]

/-- The order meets every entry once. -/
theorem order_bij (x : Fin 2048 → EReal) : Function.Bijective (order x) :=
  ⟨sortedFrom_injective _, sortedFrom_surjective _⟩

/-- The order sorts downwards. -/
theorem order_anti (x : Fin 2048 → EReal) (i j : Fin 2048) (hij : i < j) : x (order x j) ≤ x (order x i) := by
  rw [order_eq]
  have h := sortedFrom_noInversion (fun k k' => decide (x k' < x k)) (fun k k' => decide (x k' < x k))
    (fun a b h => decide_eq_false (of_decide_eq_true h).le.not_gt) (fun _ _ h => h)
    (fun a b c h h' => decide_eq_false
      (not_lt.mpr ((not_lt.mp (of_decide_eq_false h)).trans (not_lt.mp (of_decide_eq_false h')))))
    i j hij
  exact not_lt.mp (of_decide_eq_false h)

/-- The distances of a row whose seventeen greatest negations fall strictly. -/
theorem order_ordered (d : Fin 2048 → EReal)
    (h : ∀ k : Fin 16, -d (order (fun j => -d j) (k.succ.castLE (by decide)))
      < -d (order (fun j => -d j) (k.castSucc.castLE (by decide)))) :
    Ordered d (order fun j => -d j) where
  bij := order_bij _
  mono i j hij := EReal.neg_le_neg_iff.mp (order_anti (fun j => -d j) i j hij)
  strict i hi j hij := by
    have h1 := EReal.neg_lt_neg_iff.mp (h ⟨i.val, hi⟩)
    refine h1.trans_le ?_
    rcases Nat.lt_or_ge (i.val + 1) j.val with hj | hj
    · exact EReal.neg_le_neg_iff.mp (order_anti (fun j => -d j) _ j (by rw [Fin.lt_def]; exact hj))
    · have e : j = (Fin.succ (⟨i.val, hi⟩ : Fin 16)).castLE (by decide) := Fin.ext (by
        rw [Fin.lt_def] at hij
        show j.val = i.val + 1
        omega)
      rw [← e]

end Cert.Knn
-- ==== Proof.Soft.lean ====
/- The attention of one row: the softmax over all points with the others at minus infinity is the softmax over the
   sixteen nearest, and a scale taken into the query is the scale of the score. Extended reals. -/
module

public import proofs.«01_k».proof.Proof.Near
public import Idealize.ShloMosaic.PureOps.Ideal

@[expose] public section

noncomputable section

namespace Cert.Knn

open Idealize.ShloMosaic

/-- Exponentials are nonnegative. -/
theorem exp_nonneg (x : EReal) : 0 ≤ Ideal.exp x := by
  induction x with
  | bot => simp
  | top => simp
  | coe r => rw [Ideal.exp_coe]; exact_mod_cast (Real.exp_pos r).le

/-- A score of minus infinity has the exponential zero. -/
theorem exp_bot_sub (x : EReal) : Ideal.exp (⊥ - x) = 0 := by
  rw [EReal.bot_sub]; rfl

/-- A finite nonnegative factor of every query entry is a factor of the score. -/
theorem sum_scale {n : ℕ} (r : ℝ) (hr : 0 ≤ r) (q k : Fin n → EReal) :
    ∑ i, (q i * (r : EReal)) * k i = (∑ i, q i * k i) * (r : EReal) := by
  have h : ∀ s : Finset (Fin n), ∑ i ∈ s, (q i * (r : EReal)) * k i = (∑ i ∈ s, q i * k i) * (r : EReal) := by
    intro s
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r), mul_right_comm]
  exact h _

/-- The score a masked row has of a point. -/
def masked (sel : Fin 2048 → Prop) [DecidablePred sel] (t : Fin 2048 → EReal) : Fin 2048 → EReal :=
  fun j => if sel j then t j else ⊥

/-- The greatest score, replaced by zero where it is minus infinity. -/
def topOf (s : Fin 2048 → EReal) : EReal := if Finset.univ.sup s = ⊥ then 0 else Finset.univ.sup s
/-- The exponential of a score, less the greatest score. -/
def expOf (s : Fin 2048 → EReal) (j : Fin 2048) : EReal := Ideal.exp (s j - topOf s)
/-- The weight of a point, its denominator replaced by one where it is zero. -/
def weight (s : Fin 2048 → EReal) (j : Fin 2048) : EReal :=
  Ideal.div (expOf s j) (if ∑ j, expOf s j = 0 then 1 else ∑ j, expOf s j)

/-- The exponential of one of sixteen scores, of which some do not count. -/
def expNear (ok : Fin 16 → Prop) [DecidablePred ok] (t : Fin 16 → EReal) (k : Fin 16) : EReal :=
  if ok k then Ideal.exp (t k - Finset.univ.sup fun k => if ok k then t k else ⊥) else 0
/-- The weight of one of the sixteen, zero where the denominator is zero. -/
def weightNear (ok : Fin 16 → Prop) [DecidablePred ok] (t : Fin 16 → EReal) (k : Fin 16) : EReal :=
  if ∑ k, expNear ok t k = 0 then 0 else Ideal.div (expNear ok t k) (∑ k, expNear ok t k)

section
variable (τ : Fin 16 → Fin 2048) (hτ : Function.Injective τ) (valid : Fin 2048 → Prop) [DecidablePred valid]
  (sel : Fin 2048 → Prop) [DecidablePred sel] (hsel : ∀ j, sel j ↔ (∃ k, τ k = j) ∧ valid j) (t : Fin 2048 → EReal)
include hτ hsel

omit hτ in
/-- The greatest masked score is that of the sixteen. -/
theorem sup_masked : Finset.univ.sup (masked sel t) = Finset.univ.sup fun k => if valid (τ k) then t (τ k) else ⊥ := by
  refine le_antisymm (Finset.sup_le fun j _ => ?_) (Finset.sup_le fun k _ => ?_)
  · unfold masked
    split
    · rename_i h
      obtain ⟨⟨k, rfl⟩, hv⟩ := (hsel j).mp h
      refine le_trans (le_of_eq ?_) (Finset.le_sup (f := fun k => if valid (τ k) then t (τ k) else ⊥) (Finset.mem_univ k))
      exact (if_pos hv).symm
    · exact bot_le
  · split
    · rename_i h
      refine le_trans (le_of_eq ?_) (Finset.le_sup (Finset.mem_univ (τ k)))
      exact (if_pos ((hsel _).mpr ⟨⟨k, rfl⟩, h⟩)).symm
    · exact bot_le

omit hτ in
/-- The exponential at a near point is that of the sixteen. -/
theorem expOf_near (k : Fin 16) : expOf (masked sel t) (τ k) = expNear (fun k => valid (τ k)) (fun k => t (τ k)) k := by
  unfold expOf expNear topOf
  rw [sup_masked τ valid sel hsel t]
  by_cases hv : valid (τ k)
  · have hm : masked sel t (τ k) = t (τ k) := if_pos ((hsel _).mpr ⟨⟨k, rfl⟩, hv⟩)
    rw [if_pos hv, hm]
    split
    · rename_i h
      have hb : t (τ k) = ⊥ := by
        have := Finset.le_sup (f := fun k => if valid (τ k) then t (τ k) else ⊥) (Finset.mem_univ k)
        rw [h, le_bot_iff] at this
        rw [if_pos hv] at this
        exact this
      rw [hb, exp_bot_sub]
      show 0 = Ideal.exp (t (τ k) - _)
      rw [hb, exp_bot_sub]
    · rfl
  · have hm : masked sel t (τ k) = ⊥ := if_neg fun h => hv ((hsel _).mp h).2
    rw [if_neg hv, hm, exp_bot_sub]

omit hτ in
/-- The exponential at a far point is zero. -/
theorem expOf_far (j : Fin 2048) (hj : ¬ ∃ k, τ k = j) : expOf (masked sel t) j = 0 := by
  have hm : masked sel t j = ⊥ := if_neg fun h => hj ((hsel _).mp h).1
  unfold expOf
  rw [hm, exp_bot_sub]

/-- A sum over all points of something that vanishes away from the sixteen is the sum over the sixteen. -/
theorem sum_near (f : Fin 2048 → EReal) (hf : ∀ j, (¬ ∃ k, τ k = j) → f j = 0) : ∑ j, f j = ∑ k, f (τ k) := by
  rw [← Finset.sum_image (s := Finset.univ) (g := τ) (f := f) fun a _ b _ h => hτ h]
  refine (Finset.sum_subset (Finset.subset_univ _) fun j _ hj => hf j ?_).symm
  rintro ⟨k, rfl⟩
  exact hj (Finset.mem_image_of_mem _ (Finset.mem_univ k))

/-- The two softmaxes weigh the same values to the same sum. -/
theorem attend (v : Fin 2048 → EReal) :
    ∑ j, weight (masked sel t) j * v j = ∑ k, weightNear (fun k => valid (τ k)) (fun k => t (τ k)) k * v (τ k) := by
  have hz : ∑ j, expOf (masked sel t) j = ∑ k, expNear (fun k => valid (τ k)) (fun k => t (τ k)) k := by
    rw [sum_near τ hτ valid sel hsel _ (expOf_far τ valid sel hsel t)]
    exact Finset.sum_congr rfl fun k _ => expOf_near τ valid sel hsel t k
  rw [sum_near τ hτ valid sel hsel]
  · refine Finset.sum_congr rfl fun k _ => ?_
    congr 1
    unfold weight weightNear
    rw [hz, expOf_near τ valid sel hsel]
    by_cases h0 : ∑ k, expNear (fun k => valid (τ k)) (fun k => t (τ k)) k = 0
    · rw [if_pos h0, if_pos h0]
      have hk := (Finset.sum_eq_zero_iff_of_nonneg fun k _ => (by
        unfold expNear; split
        · exact exp_nonneg _
        · exact le_refl _ : (0 : EReal) ≤ expNear (fun k => valid (τ k)) (fun k => t (τ k)) k)).mp h0 k (Finset.mem_univ k)
      rw [hk]
      unfold Ideal.div
      rw [if_neg one_ne_zero, zero_mul]
    · rw [if_neg h0, if_neg h0]
  · intro j hj
    unfold weight
    rw [expOf_far τ valid sel hsel t j hj]
    have : Ideal.div 0 (if ∑ j, expOf (masked sel t) j = 0 then 1 else ∑ j, expOf (masked sel t) j) = 0 := by
      unfold Ideal.div
      rw [if_neg, zero_mul]
      split
      · exact one_ne_zero
      · assumption
    rw [this, zero_mul]

end

end Cert.Knn
-- ==== Proof.Spec.lean ====
/- What both programs compute, one element at a time: attention of a point over its sixteen nearest points. -/
module

public import proofs.«01_k».proof.Proof.Order
public import proofs.«01_k».proof.Proof.Soft

@[expose] public section

noncomputable section

namespace Cert.Knn

open Idealize.ShloMosaic

/-- The row of the flat arrays a point of a cloud stands in. -/
def place (b : Fin 8) (i : Fin 2048) : Fin 16384 := ⟨b.val * 2048 + i.val, by omega⟩

abbrev Points : Shape := ⟨2, ![16384, 3]⟩
abbrev Features : Shape := ⟨2, ![16384, 256]⟩
abbrev Matrix : Shape := ⟨2, ![256, 256]⟩
abbrev Bias : Shape := ⟨1, ![256]⟩

/-- The squared norm of a point. -/
def normSq (P : Points.Idx → EReal) (n : Fin 16384) : EReal := ∑ a : Fin 3, P (ix2 n a) * P (ix2 n a)

/-- The squared distance of two points of a cloud, by the norms and the inner product. -/
def gap (P : Points.Idx → EReal) (b : Fin 8) (i j : Fin 2048) : EReal :=
  (normSq P (place b i) + normSq P (place b j))
    - Ideal.ofBits .f32 0x40000000#32 * ∑ a : Fin 3, P (ix2 (place b i) a) * P (ix2 (place b j) a)

/-- The points of the cloud, nearest first. -/
def nearest (P : Points.Idx → EReal) (b : Fin 8) (i : Fin 2048) : Fin 2048 → Fin 2048 := order fun j => -gap P b i j

/-- A row through an affine map. -/
def affine (X : Features.Idx → EReal) (W : Matrix.Idx → EReal) (B : Bias.Idx → EReal) (n : Fin 16384) (e : Fin 256) :
    EReal := (∑ f : Fin 256, X (ix2 n f) * W (ix2 e f)) + B (ix1 e)

/-- The sixteen nearest points. -/
def neighbour (P : Points.Idx → EReal) (b : Fin 8) (i : Fin 2048) (k : Fin 16) : Fin 16384 :=
  place b (nearest P b i (at16 k))

/-- A point's attention over sixteen rows, by channel, before the last affine map. -/
def attention (Q I : Features.Idx → EReal) (Wq : Matrix.Idx → EReal) (Bq : Bias.Idx → EReal)
    (Wk : Matrix.Idx → EReal) (Bk : Bias.Idx → EReal) (Wv : Matrix.Idx → EReal) (Bv : Bias.Idx → EReal)
    (n : Fin 16384) (near : Fin 16 → Fin 16384) (e : Fin 256) : EReal :=
  ∑ k : Fin 16, weightNear (fun k => ∑ f : Fin 256, I (ix2 (near k) f) ≠ 0)
    (fun k => Ideal.div (∑ f : Fin 256, affine Q Wq Bq n f * affine I Wk Bk (near k) f) ((16 : ℝ) : EReal)) k
      * affine I Wv Bv (near k) e

/-- The result at a point of a cloud and a channel. -/
def fused (P : Points.Idx → EReal) (Q I : Features.Idx → EReal) (Wq : Matrix.Idx → EReal) (Bq : Bias.Idx → EReal)
    (Wk : Matrix.Idx → EReal) (Bk : Bias.Idx → EReal) (Wv : Matrix.Idx → EReal) (Bv : Bias.Idx → EReal)
    (Wc : Matrix.Idx → EReal) (Bc : Bias.Idx → EReal) (b : Fin 8) (i : Fin 2048) (c : Fin 256) : EReal :=
  (∑ e : Fin 256, attention Q I Wq Bq Wk Bk Wv Bv (place b i) (neighbour P b i) e * Wc (ix2 c e)) + Bc (ix1 c)

end Cert.Knn
-- ==== Proof.Apart.lean ====
/- The precondition at a row: the sixteen nearest points stand in one order, and no other is as near. -/
module

public import proofs.«01_k».proof.Proof.Gen.Pre_neighbours_strict
public import proofs.«01_k».proof.Proof.Spec
public import Idealize.ShloMosaic.Lib.Pointwise

@[expose] public section

set_option maxRecDepth 16384

noncomputable section

namespace Cert.Pre_neighbours_strict

open Idealize.ShloMosaic Cert.Knn Facts

/-- A condition whose bit is set holds. -/
theorem of_ofBool {p : Prop} [Decidable p] (h : BitVec.ofBool (decide p) = 1#1) : p := by
  by_contra hp
  rw [decide_eq_false hp] at h
  exact absurd h (by decide)

/-- The negated distances the precondition sorts. -/
def away (P : FVec Ideal S16384x3 .f32) : FVec Ideal S8x2048x2048 .f32 :=
  let X : FVec Ideal S8x2048x3 .f32 := shapeCast S8x2048x3 P shapeCasts_S16384x3_S8x2048x3
  let N : FVec Ideal S8x2048 .f32 := Host.reduceAdd (mulf X X) (constant S_ .f32 0x00000000#32) reducesTo_S8x2048x3_S8x2048_d2 h_S_
  Host.negf (subf (addf (broadcastInDim S8x2048x2048 ![0, 1, 2] bcast_S8x2048x1_S8x2048x2048_0_1_2 (broadcastInDim S8x2048x1 ![0, 1] bcast_S8x2048_S8x2048x1_0_1 N)) (broadcastInDim S8x2048x2048 ![0, 1, 2] bcast_S8x1x2048_S8x2048x2048_0_1_2 (broadcastInDim S8x1x2048 ![0, 2] bcast_S8x2048_S8x1x2048_0_2 N))) (mulf (broadcastInDim S8x2048x2048 ![] bcast_S_S8x2048x2048 (constant S_ .f32 0x40000000#32)) (Host.dotGeneral dot_S8x2048x3_S8x2048x3_S8x2048x2048_2_2_1_1_0_0 none X X)))

/-- What the precondition sorts: the distances, negated. -/
theorem away_at (P : FVec Ideal S16384x3 .f32) (b : Fin 8) (i j : Fin 2048) :
    away P (ix3 b i j) = -gap P b i j := by
  pointwise [away]
  rfl

/-- The first sixteen of the seventeen, at an index. -/
theorem slice_ge (x : S8x2048x17.Idx → EReal) (b : Fin 8) (i : Fin 2048) (k : Fin 16) :
    extractStridedSlice S8x2048x16 ![0, 0, 0] x slices_S8x2048x17_S8x2048x16_0_0_0 (ix3 b i k) = x (ix3 b i k.castSucc) := by
  pointwise []
  rfl

/-- The last sixteen of the seventeen, at an index. -/
theorem slice_gt (x : S8x2048x17.Idx → EReal) (b : Fin 8) (i : Fin 2048) (k : Fin 16) :
    extractStridedSlice S8x2048x16 ![0, 0, 1] x slices_S8x2048x17_S8x2048x16_0_0_1 (ix3 b i k) = x (ix3 b i k.succ) := by
  pointwise []
  exact congrArg (fun z => x (ix3 b i z)) (Fin.ext (by simp [Nat.add_comm]))

/-- The precondition in the words of the proof: every row of distances is sorted by `nearest`, strictly up to
  the seventeenth. -/
theorem ordered (P : FVec Ideal S16384x3 .f32) (C : IVec S8 32) (Q I : FVec Ideal S16384x256 .f32)
    (Wq : FVec Ideal S256x256 .f32) (Bq : FVec Ideal S256 .f32) (Wk : FVec Ideal S256x256 .f32) (Bk : FVec Ideal S256 .f32)
    (Wv : FVec Ideal S256x256 .f32) (Bv : FVec Ideal S256 .f32) (Wc : FVec Ideal S256x256 .f32) (Bc : FVec Ideal S256 .f32)
    (h : fn (F := Ideal) P C Q I Wq Bq Wk Bk Wv Bv Wc Bc = fun _ => 1#1) (b : Fin 8) (i : Fin 2048) :
    Ordered (gap P b i) (nearest P b i) := by
  have hr : Stack.row (away P) b i = fun j => -gap P b i j := funext fun j => away_at P b i j
  refine order_ordered _ fun k => ?_
  have hk : cmpf (F := Ideal) (φ := .f32) .ogt
      (extractStridedSlice S8x2048x16 ![0, 0, 0] (Host.topK S8x2048x17 2 (FloatOps.cmpfTotal .gt) (away P) sliceFits_S8x2048x2048_S8x2048x17).1 slices_S8x2048x17_S8x2048x16_0_0_0)
      (extractStridedSlice S8x2048x16 ![0, 0, 1] (Host.topK S8x2048x17 2 (FloatOps.cmpfTotal .gt) (away P) sliceFits_S8x2048x2048_S8x2048x17).1 slices_S8x2048x17_S8x2048x16_0_0_1)
      (ix3 b i k) = 1#1 := congrFun h (ix3 b i k)
  change Ideal.cmp .ogt (extractStridedSlice _ _ _ _ (ix3 b i k)) (extractStridedSlice _ _ _ _ (ix3 b i k)) = 1#1 at hk
  rw [slice_ge, slice_gt, topK_value, topK_value, hr, away_at, away_at] at hk
  have hlt := of_ofBool hk
  exact hlt

end Cert.Pre_neighbours_strict
-- ==== Proof.Take.lean ====
/- Rows taken by an array of row numbers, all in range: the wrap of negative numbers and the fill out of range both
   leave the rows named. -/
module

public import proofs.«01_k».proof.Proof.Gen.ReferenceIdeal.Read
public import Idealize.ShloMosaic.Lib.Pointwise

@[expose] public section

set_option maxRecDepth 16384

noncomputable section

namespace Cert.ReferenceIdeal.Take

open Cert.ReferenceIdeal Cert.ReferenceIdeal.Gen Idealize.ShloMosaic Idealize.ShloMosaic.TcCoe Idealize.SL.Sem
open Idealize.ShloMosaic.ValueIdx (gather_take_apply takeIdx)

/-- The row numbers, a negative one counted from the end. -/
def wrapped (idx : IVec S16384x16 32) : IVec S16384x16x1 32 :=
  broadcastInDim S16384x16x1 ![0, 1] bcast_S16384x16_S16384x16x1_0_1
    (select (cmpi .slt idx (broadcastInDim S16384x16 ![] bcast_S_S16384x16 (constantI S_ 32 0#32)))
      (addi idx (broadcastInDim S16384x16 ![] bcast_S_S16384x16 (constantI S_ 32 16384#32))) idx)

/-- Whether a row number names a row. -/
def inside (s : IVec S16384x16x1 32) : IVec S16384x16 1 :=
  Host.reduce IntOp.andi
    (andi (cmpi .sge s (broadcastInDim S16384x16x1 ![] bcast_S_S16384x16x1 (constantI S_ 32 0#32)))
      (cmpi .sle s (broadcastInDim S16384x16x1 ![0, 1, 2] bcast_S1x1x1_S16384x16x1_0_1_2
        (broadcastInDim S1x1x1 ![2] bcast_S1_S1x1x1_2 (constantI S1 32 16383#32)))))
    (constantI S_ 1 1#1) reducesTo_S16384x16x1_S16384x16_d2 h_S_

/-- A row number read as an integer. -/
theorem toInt_row (p : Fin 16384) : (BitVec.ofNat 32 p.val).toInt = p.val := by
  rw [BitVec.toInt_eq_toNat_of_lt (by rw [BitVec.toNat_ofNat]; omega), BitVec.toNat_ofNat]
  omega

/-- A row number is not negative. -/
theorem not_neg (p : Fin 16384) : IntOp.cmpi .slt (BitVec.ofNat 32 p.val) 0#32 = 0#1 := by
  have h : (BitVec.ofNat 32 p.val).slt 0#32 = false := by
    rw [BitVec.slt_eq_decide, toInt_row]
    simp
  show BitVec.ofBool _ = 0#1
  rw [h]
  rfl

/-- A row number is at least zero. -/
theorem ge_zero (p : Fin 16384) : IntOp.cmpi .sge (BitVec.ofNat 32 p.val) 0#32 = 1#1 := by
  have h : (0#32).sle (BitVec.ofNat 32 p.val) = true := by
    rw [BitVec.sle_eq_decide, toInt_row]
    simp
  show BitVec.ofBool _ = 1#1
  rw [h]
  rfl

/-- A row number is at most the last row. -/
theorem le_last (p : Fin 16384) : IntOp.cmpi .sle (BitVec.ofNat 32 p.val) 16383#32 = 1#1 := by
  have h : (BitVec.ofNat 32 p.val).sle 16383#32 = true := by
    rw [BitVec.sle_eq_decide, toInt_row, decide_eq_true_eq]
    show (p.val : Int) ≤ 16383
    omega
  show BitVec.ofBool _ = 1#1
  rw [h]
  rfl

variable {idx : IVec S16384x16 32} {s : IVec S16384x16x1 32} {n : Fin 16384} {k : Fin 16} {p : Fin 16384}

/-- A row number is not wrapped. -/
theorem wrapped_at (h : idx (ix2 n k) = BitVec.ofNat 32 p.val) : wrapped idx (ix3 n k 0) = BitVec.ofNat 32 p.val := by
  pointwise [wrapped]
  rw [h, not_neg]
  rfl

/-- A row number is in range. -/
theorem inside_at (h : s (ix3 n k 0) = BitVec.ofNat 32 p.val) : inside s (ix2 n k) = 1#1 := by
  pointwise [inside]
  rw [show (Finset.univ : Finset (Fin 1)) = {0} from rfl, Finset.fold_singleton, h, ge_zero, le_last]
  rfl

/-- A gather of single entries. -/
theorem bits_at {α : Type} (x : S16384.Idx → α) (h : s (ix3 n k 0) = BitVec.ofNat 32 p.val) :
    Host.gather gather_S16384_S16384x16x1_S16384x16_n_0_n_n_0_2_1 x s (ix2 n k) = x (ix1 p) := by
  have e : takeIdx (ix2 n k) = (ix3 n k 0 : S16384x16x1.Idx) := by
    funext a
    fin_cases a <;> rfl
  refine (gather_take_apply (by decide) _ x s (ix2 n k)).trans (congrArg (fun q => x (ix1 q)) (Fin.ext ?_))
  show min (s (takeIdx (ix2 n k))).toInt.toNat _ = _
  rw [e, h, toInt_row]
  show min p.val 16383 = p.val
  omega

/-- The rows' dimension numbers. -/
abbrev rowDims : GatherDims S16384x256 S16384x16x1 S16384x16x256 :=
  gather_S16384x256_S16384x16x1_S16384x16x256_2_0_n_n_0_2_1256

theorem named : (0 : Fin 2) ∈ rowDims.startIndexMap := by decide

theorem kept : (1 : Fin 2) ∈ rowDims.sKept := by decide

/-- Where the row number of a gathered entry stands. -/
theorem word_place (c : Fin rowDims.startIndexMap.length) (e : Fin 256) :
    rowDims.siIdx (ix3 n k e) c = (ix3 n k 0 : S16384x16x1.Idx) := by
  funext a
  match a with
  | ⟨0, _⟩ => rfl
  | ⟨1, _⟩ => rfl
  | ⟨2, _⟩ => exact Fin.ext (by show c.val = 0; exact Nat.lt_one_iff.mp c.isLt)

/-- The row that a gather reads. -/
theorem row_start (h : s (ix3 n k 0) = BitVec.ofNat 32 p.val) (e : Fin 256) :
    rowDims.start (ix3 n k e) s (0 : Fin 2) = p.val := by
  unfold GatherDims.start
  rw [dif_pos named, word_place, h, toInt_row]
  show min p.val 16383 = p.val
  omega

/-- A gather of rows. -/
theorem rows_at {α : Type} (x : S16384x256.Idx → α) (h : s (ix3 n k 0) = BitVec.ofNat 32 p.val) (e : Fin 256) :
    Host.gather rowDims x s (ix3 n k e) = x (ix2 p e) := by
  refine congrArg x (funext fun a => Fin.ext ?_)
  show rowDims.start (ix3 n k e) s a + rowDims.batchCoord (ix3 n k e) a + rowDims.offCoord (ix3 n k e) a = _
  rw [GatherDims.batchCoord_eq_zero _ _ _ List.not_mem_nil, Nat.add_zero]
  match a with
  | ⟨0, _⟩ =>
    have ho : rowDims.offCoord (ix3 n k e) (0 : Fin 2) = 0 := dif_neg (by decide)
    exact (congrArg₂ (· + ·) (row_start h e) ho).trans (Nat.add_zero _)
  | ⟨1, _⟩ =>
    have hs : rowDims.start (ix3 n k e) s (1 : Fin 2) = 0 := dif_neg (by decide)
    have ho : rowDims.offCoord (ix3 n k e) (1 : Fin 2) = e.val := dif_pos kept
    exact (congrArg₂ (· + ·) hs ho).trans (Nat.zero_add _)

end Cert.ReferenceIdeal.Take
-- ==== Proof.RefNear.lean ====
/- The reference's neighbours: for every point, the rows of its sixteen nearest points. -/
module

public import proofs.«01_k».proof.Proof.Take
public import proofs.«01_k».proof.Proof.Spec

@[expose] public section

set_option maxRecDepth 16384

noncomputable section

namespace Cert.ReferenceIdeal.Rows

open Cert.ReferenceIdeal Cert.ReferenceIdeal.Gen Cert.ReferenceIdeal.Read Cert.ReferenceIdeal.Take Cert.Knn
open Idealize.ShloMosaic Idealize.ShloMosaic.TcCoe Idealize.SL.Sem

variable (P : Points.Idx → EReal) (Q I : Features.Idx → EReal) (Wq : Matrix.Idx → EReal) (Bq : Bias.Idx → EReal)
  (Wk : Matrix.Idx → EReal) (Bk : Bias.Idx → EReal) (Wv : Matrix.Idx → EReal) (Bv : Bias.Idx → EReal)
  (Wc : Matrix.Idx → EReal) (Bc : Bias.Idx → EReal)

/-- What the reference sorts: the distances, negated. -/
theorem away_at (b : Fin 8) (i j : Fin 2048) : val_main_v27 (F := Ideal) P (ix3 b i j) = -gap P b i j := by
  pointwise [val_main_v27, val_main_v26, val_main_v25, val_main_v24, val_main_v23, val_main_v22, val_main_v21,
    val_main_v20, val_main_v19, val_main_v18, val_main_v17, val_main_v16, val_main_v15, val_main_cst, val_main_cst_0]
  rfl

/-- The indices within the cloud. -/
theorem index_at (b : Fin 8) (i : Fin 2048) (k : Fin 16) :
    val_main_indices (F := Ideal) P (ix3 b i k) = BitVec.ofNat 32 (nearest P b i (at16 k)).val := by
  have hr : Stack.row (val_main_v27 (F := Ideal) P) b i = fun j => -gap P b i j := funext fun j => away_at P b i j
  unfold val_main_indices
  rw [topK_index, hr]
  rfl

/-- The indices, moved to the rows of their cloud. -/
theorem shifted_at (b : Fin 8) (i : Fin 2048) (k : Fin 16) :
    val_main_v33 (F := Ideal) P (ix3 b i k) = BitVec.ofNat 32 (neighbour P b i k).val := by
  rw [val_main_v33_apply, index_at]
  have h : val_main_v32 (F := Ideal) (ix3 b i k) = BitVec.ofNat 32 b.val * 2048#32 := by
    pointwise [val_main_v32, val_main_v31, val_main_v30, val_main_v29, val_main_v28, val_main_c]
    rfl
  rw [h]
  unfold neighbour place
  generalize nearest P b i (at16 k) = z
  show BitVec.ofNat 32 z.val + BitVec.ofNat 32 b.val * BitVec.ofNat 32 2048 = BitVec.ofNat 32 (b.val * 2048 + z.val)
  rw [← BitVec.ofNat_mul, ← BitVec.ofNat_add, Nat.add_comm]

/-- The cloud of a row. -/
theorem place_cloud (b : Fin 8) (i : Fin 2048) : (place b i).val / 2048 = b.val := by
  unfold place
  show (b.val * 2048 + i.val) / 2048 = _
  omega

/-- The point of a row. -/
theorem place_row (b : Fin 8) (i : Fin 2048) : (place b i).val % 2048 = i.val := by
  unfold place
  show (b.val * 2048 + i.val) % 2048 = _
  omega

/-- The rows that the reference takes are the sixteen nearest. -/
theorem near_at (b : Fin 8) (i : Fin 2048) (k : Fin 16) :
    val_main_v34 (F := Ideal) P (ix2 (place b i) k) = BitVec.ofNat 32 (neighbour P b i k).val := by
  rw [← shifted_at]
  pointwise [val_main_v34]
  exact congrArg₂ (fun x y => val_main_v33 (F := Ideal) P (ix3 x y k)) (Fin.ext (place_cloud b i)) (Fin.ext (place_row b i))

end Cert.ReferenceIdeal.Rows
-- ==== Proof.Thresh.lean ====
/- The threshold of the body, read one row at a time. -/
module

public import proofs.«01_k».proof.Proof.Run
public import proofs.«01_k».proof.Proof.Near
public import Idealize.ShloMosaic.Lib.Pointwise

@[expose] public section

set_option maxRecDepth 16384

noncomputable section

namespace Cert.KernelIdeal.Thresh

open Idealize.ShloMosaic Idealize.ShloMosaic.TcCoe Idealize.SL.Sem Cert.KernelIdeal.Gen Cert.KernelIdeal Cert.Knn

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]
theorem ofBits_sixteen : Ideal.ofBits .f32 0x41800000#32 = ((16 : ℝ) : EReal) := by
  simp [Ideal.ofBits, Ideal.ieee]; rw [← EReal.coe_mul]; norm_num
theorem ofBits_256 : Ideal.ofBits .f32 0x43800000#32 = ((256 : ℝ) : EReal) := by
  simp [Ideal.ofBits, Ideal.ieee]; rw [← EReal.coe_mul]; norm_num

/-- A row of the distances. -/
def row (d : FVec Ideal S512x2048 .f32) (r : Fin 512) : Fin 2048 → EReal := fun j => d (ix2 r j)

/-- The four lists at an index. -/
def four (h : Sel.Heads Ideal) (i : S512x128.Idx) : Four := (h.1 i, h.2.1 i, h.2.2.1 i, h.2.2.2 i)

/-- The network of four at an index. -/
theorem sort4_at (a b c d : FVec Ideal S512x128 .f32) (i : S512x128.Idx) :
    four (Sel.sort4 a b c d) i = Knn.sort4 (a i) (b i) (c i) (d i) := rfl

/-- The merge at an index. -/
theorem bottom4_at (a b : Sel.Heads Ideal) (i : S512x128.Idx) :
    four (Sel.bottom4 a b) i = Knn.bottom4 (four a i) (four b i) := rfl

/-- The heads of a lane. -/
theorem heads_at (d : FVec Ideal S512x2048 .f32) (r : Fin 512) (l : Fin 128) :
    four (Sel.heads d) (ix2 r l) = headRow (row d r) l := by
  have hc : ∀ (o : ℕ) (h : S512x2048.Slices ![0, o] S512x128) (j : Fin 2048) (hj : o + l.val = j.val),
      Sel.chunk d ![0, o] h (ix2 r l) = row d r j := fun o h j hj => by
    unfold Sel.chunk row
    pointwise
    exact congrArg d ((ix2_inj ..).2 ⟨rfl, Fin.ext hj⟩)
  have h4 : ∀ {a b c e a' b' c' e' : EReal}, a = a' → b = b' → c = c' → e = e' → Knn.sort4 a b c e = Knn.sort4 a' b' c' e' := by
    rintro a b c e _ _ _ _ rfl rfl rfl rfl; rfl
  unfold Sel.heads headRow Knn.heads
  rw [bottom4_at, bottom4_at, bottom4_at, sort4_at, sort4_at, sort4_at, sort4_at]
  refine congrArg₂ bottom4 (congrArg₂ bottom4 ?_ ?_) (congrArg₂ bottom4 ?_ ?_) <;>
    exact h4 (hc _ _ _ rfl) (hc _ _ _ rfl) (hc _ _ _ rfl) (hc _ _ _ rfl)

/-! ## The pops -/

/-- The lanes of a row of a block. -/
def lanes (q : Sel.Quad Ideal) (r : Fin 64) : Row :=
  fun l => (q.1 (ix2 r l), q.2.1 (ix2 r l), q.2.2.1 (ix2 r l), q.2.2.2 (ix2 r l))

/-- The least entry of a row. -/
theorem rowMin_at (s : FVec Ideal S64x128 .f32) (r : Fin 64) :
    Sel.rowMin s (ix2 r 0) = Finset.univ.inf fun l => s (ix2 r l) := by
  pointwise [Sel.rowMin, ofBits_inf]
  rfl

/-- The least head of a row. -/
theorem rowMin_lanes (q : Sel.Quad Ideal) (r : Fin 64) : Sel.rowMin q.1 (ix2 r 0) = (lanes q r).least := rowMin_at q.1 r

/-- A pop, one row at a time. -/
theorem pop_at (q : Sel.Quad Ideal) (r : Fin 64) : lanes (Sel.pop q) r = (lanes q r).pop := by
  funext l
  unfold lanes Row.pop Row.least Sel.pop
  dsimp only
  pointwise [Sel.atMin, ofBits_inf]
  rw [rowMin_at]
  split <;> rfl

/-- Pops, one row at a time. -/
theorem pops_at (q : Sel.Quad Ideal) (r : Fin 64) (n : ℕ) : lanes (Sel.pop^[n] q) r = Row.pop^[n] (lanes q r) := by
  induction n with
  | zero => rfl
  | succ n ih => rw [Function.iterate_succ_apply', Function.iterate_succ_apply', pop_at, ih]

section
attribute [local irreducible] Sel.pop
theorem popped_eq (q : Sel.Quad Ideal) : Sel.popped q = Sel.rowMin (Sel.pop^[15] q).1 := rfl
end

/-- The bound of a row after fifteen pops. -/
theorem popped_at (q : Sel.Quad Ideal) (r : Fin 64) :
    Sel.popped q (ix2 r 0) = (Row.pop^[15] (lanes q r)).least := by
  rw [popped_eq, rowMin_lanes, pops_at]

/-- A block of rows of the heads. -/
theorem block_at (d : FVec Ideal S512x2048 .f32) (o : ℕ) (h : S512x128.Slices ![o, 0] S64x128) (r : Fin 64)
    (R : Fin 512) (hR : R.val = o + r.val) :
    Sel.popped (Sel.quad (Sel.heads d).1 (Sel.heads d).2.1 (Sel.heads d).2.2.1 (Sel.heads d).2.2.2 ![o, 0] h) (ix2 r 0)
      = popped (row d R) := by
  rw [popped_at]
  unfold popped
  congr 2
  funext l
  rw [← heads_at]
  unfold lanes Sel.quad four
  have he : ∀ x : FVec Ideal S512x128 .f32, extractStridedSlice S64x128 ![o, 0] x h (ix2 r l) = x (ix2 R l) := fun x => by
    pointwise
    exact congrArg x ((ix2_inj ..).2 ⟨Fin.ext hR.symm, rfl⟩)
  dsimp only
  rw [he, he, he, he]

/-- The fast threshold of a row. -/
theorem thr_at (d : FVec Ideal S512x2048 .f32) (r : Fin 512) : Sel.thr d (ix2 r 0) = popped (row d r) := by
  unfold Sel.thr Sel.fast
  pointwise
  split_ifs <;> first | exact block_at d _ _ _ r (by first | rfl | (dsimp only; omega)) | (exfalso; omega)

/-! ## The rounds -/

/-- The least distance of a row. -/
theorem least_at (d : FVec Ideal S512x2048 .f32) (r : Fin 512) :
    k0_pay561 d (ix2 r 0) = Finset.univ.inf (row d r) := by
  pointwise [k0_pay561, ofBits_inf]
  rfl

/-- A round of the exact selection, one row at a time. -/
theorem drop_at (d : FVec Ideal S512x2048 .f32) (r : Fin 512) : row (k0_pay562 d) r = drop (row d r) := by
  funext j
  unfold drop
  rw [← least_at]
  unfold row
  pointwise [k0_pay562, ofBits_inf]

end Cert.KernelIdeal.Thresh
-- ==== Proof.RefRows.lean ====
/- The reference's result, one element at a time: the attention of a point over its sixteen nearest points. -/
module

public import proofs.«01_k».proof.Proof.RefNear
public import proofs.«01_k».proof.Proof.Thresh

@[expose] public section

set_option maxRecDepth 16384

noncomputable section

namespace Cert.ReferenceIdeal.Rows

open Cert.ReferenceIdeal Cert.ReferenceIdeal.Gen Cert.ReferenceIdeal.Read Cert.ReferenceIdeal.Take Cert.Knn
open Idealize.ShloMosaic Idealize.ShloMosaic.TcCoe Idealize.SL.Sem

variable (P : Points.Idx → EReal) (Q I : Features.Idx → EReal) (Wq : Matrix.Idx → EReal) (Bq : Bias.Idx → EReal)
  (Wk : Matrix.Idx → EReal) (Bk : Bias.Idx → EReal) (Wv : Matrix.Idx → EReal) (Bv : Bias.Idx → EReal)
  (Wc : Matrix.Idx → EReal) (Bc : Bias.Idx → EReal)

/-- The queries. -/
theorem query_at (n : Fin 16384) (e : Fin 256) : val_main_v4 (F := Ideal) Q Wq Bq (ix2 n e) = affine Q Wq Bq n e := by
  pointwise [val_main_v4, val_main_v3, val_main_v2, val_main_v1, val_main_v0]
  rfl

/-- The keys. -/
theorem key_at (n : Fin 16384) (e : Fin 256) : val_main_v9 (F := Ideal) I Wk Bk (ix2 n e) = affine I Wk Bk n e :=
  query_at I Wk Bk n e

/-- The values. -/
theorem value_at (n : Fin 16384) (e : Fin 256) : val_main_v14 (F := Ideal) I Wv Bv (ix2 n e) = affine I Wv Bv n e :=
  query_at I Wv Bv n e

/-- The row numbers every take reads. -/
theorem start_at (b : Fin 8) (i : Fin 2048) (k : Fin 16) :
    wrapped (val_main_v34 (F := Ideal) P) (ix3 (place b i) k 0) = BitVec.ofNat 32 (neighbour P b i k).val :=
  wrapped_at (near_at P b i k)

/-- Rows taken, the ones out of range filled. -/
def taken (X : FVec Ideal S16384x256 .f32) (fill : FVec Ideal S16384x16x256 .f32) : FVec Ideal S16384x16x256 .f32 :=
  select (broadcastInDim S16384x16x256 ![0, 1] bcast_S16384x16_S16384x16x256_0_1 (inside (wrapped (val_main_v34 (F := Ideal) P))))
    (Host.gather rowDims X (wrapped (val_main_v34 (F := Ideal) P))) fill

/-- A taken row is the row of the neighbour: its number is in range. -/
theorem taken_at (X : FVec Ideal S16384x256 .f32) (fill : FVec Ideal S16384x16x256 .f32)
    (b : Fin 8) (i : Fin 2048) (k : Fin 16) (e : Fin 256) :
    taken P X fill (ix3 (place b i) k e) = X (ix2 (neighbour P b i k) e) := by
  pointwise [taken]
  rw [inside_at (start_at P b i k), rows_at X (start_at P b i k) e]
  rfl

/-- The keys of the neighbours. -/
theorem keys_at (b : Fin 8) (i : Fin 2048) (k : Fin 16) (e : Fin 256) :
    val_main_v35 (F := Ideal) P I Wk Bk (ix3 (place b i) k e) = affine I Wk Bk (neighbour P b i k) e :=
  (taken_at P (val_main_v9 (F := Ideal) I Wk Bk) _ b i k e).trans (key_at I Wk Bk _ e)

/-- The values of the neighbours. -/
theorem values_at (b : Fin 8) (i : Fin 2048) (k : Fin 16) (e : Fin 256) :
    val_main_v57 (F := Ideal) P I Wv Bv (ix3 (place b i) k e) = affine I Wv Bv (neighbour P b i k) e :=
  (taken_at P (val_main_v14 (F := Ideal) I Wv Bv) _ b i k e).trans (value_at I Wv Bv _ e)

/-- The score of a neighbour. -/
abbrev score (b : Fin 8) (i : Fin 2048) (k : Fin 16) : EReal :=
  Ideal.div (∑ f : Fin 256, affine Q Wq Bq (place b i) f * affine I Wk Bk (neighbour P b i k) f) ((16 : ℝ) : EReal)

/-- The scores of the neighbours. -/
theorem score_at (b : Fin 8) (i : Fin 2048) (k : Fin 16) :
    val_main_v38 (F := Ideal) P Q I Wq Bq Wk Bk (ix2 (place b i) k) = score P Q I Wq Bq Wk Bk b i k := by
  pointwise [val_main_v38, val_main_v37, val_main_cst_1, val_main_v36]
  simp only [query_at, keys_at]
  exact congrArg _ Cert.KernelIdeal.Thresh.ofBits_sixteen

/-- Whether a neighbour's features sum to nothing. -/
abbrev blank (b : Fin 8) (i : Fin 2048) (k : Fin 16) : Prop := ∑ f : Fin 256, I (ix2 (neighbour P b i k) f) = 0

/-- The mask of the neighbours. -/
theorem blank_at (b : Fin 8) (i : Fin 2048) (k : Fin 16) :
    val_main_v42 (F := Ideal) P I (ix2 (place b i) k) = BitVec.ofBool (decide (blank P I b i k)) := by
  pointwise [val_main_v42]
  rw [show val_main_call1_v12 (F := Ideal) P = inside (wrapped (val_main_v34 (F := Ideal) P)) from rfl,
    inside_at (start_at P b i k)]
  rw [show val_main_call1_v13 (F := Ideal) P I = Host.gather gather_S16384_S16384x16x1_S16384x16_n_0_n_n_0_2_1
    (val_main_v41 (F := Ideal) I) (wrapped (val_main_v34 (F := Ideal) P)) from rfl, bits_at _ (start_at P b i k)]
  pointwise [val_main_v41, val_main_v40, val_main_cst_3, val_main_v39, val_main_cst_2]

/-- A choice by a bit as a choice by its condition. -/
theorem choose_at (p : Prop) [Decidable p] (a b : EReal) :
    Scalar.select (BitVec.ofBool (decide p)) a b = if ¬ p then b else a := by
  by_cases h : p
  · rw [decide_eq_true h, if_neg (not_not.mpr h)]
    rfl
  · rw [decide_eq_false h, if_pos h]
    rfl

theorem cell_at (w : BitVec 32) : id (constant (F := Ideal) S_ FTy.f32 w) ix0 = Ideal.ofBits .f32 w := rfl

theorem ofBits_zero : Ideal.ofBits .f32 0x00000000#32 = 0 := by simp [Ideal.ofBits, Ideal.ieee]

theorem fold_top (f : Fin 16 → EReal) : Finset.fold max ⊥ f Finset.univ = Finset.univ.sup f := rfl

/-- The masked scores. -/
theorem logit_at (b : Fin 8) (i : Fin 2048) (k : Fin 16) :
    val_main_v43 (F := Ideal) P Q I Wq Bq Wk Bk (ix2 (place b i) k)
      = if ¬ blank P I b i k then score P Q I Wq Bq Wk Bk b i k else ⊥ := by
  pointwise [val_main_v43, val_main_call2_v1, val_main_call2_v0, val_main_cst_4]
  rw [blank_at, score_at]
  rw [cell_at, Cert.KernelIdeal.Thresh.ofBits_neg_inf, choose_at]

/-- The greatest masked score. -/
theorem top_at (b : Fin 8) (i : Fin 2048) :
    val_main_v44 (F := Ideal) P Q I Wq Bq Wk Bk (ix1 (place b i))
      = Finset.univ.sup fun k => if ¬ blank P I b i k then score P Q I Wq Bq Wk Bk b i k else ⊥ := by
  pointwise [val_main_v44, val_main_cst_5]
  simp only [logit_at]
  rw [Cert.KernelIdeal.Thresh.ofBits_neg_inf]
  exact fold_top _

/-- The exponentials, zero off the mask. -/
theorem exp_at (b : Fin 8) (i : Fin 2048) (k : Fin 16) :
    val_main_v49 (F := Ideal) P Q I Wq Bq Wk Bk (ix2 (place b i) k)
      = expNear (fun k => ¬ blank P I b i k) (score P Q I Wq Bq Wk Bk b i) k := by
  pointwise [val_main_v49, val_main_call3_v1, val_main_call3_v0, val_main_cst_6, val_main_v48, val_main_v47,
    val_main_v46, val_main_v45]
  rw [blank_at, logit_at, top_at]
  rw [cell_at, ofBits_zero, choose_at]
  unfold expNear
  by_cases h : blank P I b i k
  · rw [if_neg (not_not.mpr h), if_neg (not_not.mpr h)]
  · rw [if_pos h, if_pos h, if_pos h]

/-- The denominator. -/
theorem total_at (b : Fin 8) (i : Fin 2048) :
    val_main_v51 (F := Ideal) P Q I Wq Bq Wk Bk (ix2 (place b i) 0)
      = ∑ k, expNear (fun k => ¬ blank P I b i k) (score P Q I Wq Bq Wk Bk b i) k := by
  pointwise [val_main_v51, val_main_v50, val_main_cst_7]
  simp only [exp_at]

/-- The weights of the neighbours. -/
theorem weight_at (b : Fin 8) (i : Fin 2048) (k : Fin 16) :
    val_main_v56 (F := Ideal) P Q I Wq Bq Wk Bk (ix2 (place b i) k)
      = weightNear (fun k => ¬ blank P I b i k) (score P Q I Wq Bq Wk Bk b i) k := by
  pointwise [val_main_v56, val_main_call4_v1, val_main_call4_v2, val_main_call4_v0, val_main_cst_9, val_main_v55,
    val_main_v54, val_main_v53, val_main_v52, val_main_cst_8]
  rw [cell_at, ofBits_zero, total_at, exp_at]
  rfl

/-- The weighted values. -/
theorem mix_at (b : Fin 8) (i : Fin 2048) (e : Fin 256) :
    val_main_v58 (F := Ideal) P Q I Wq Bq Wk Bk Wv Bv (ix2 (place b i) e)
      = attention Q I Wq Bq Wk Bk Wv Bv (place b i) (neighbour P b i) e := by
  pointwise [val_main_v58]
  simp only [weight_at, values_at]
  rfl

/-- The reference at a point of a cloud and a channel. -/
theorem result_at (b : Fin 8) (i : Fin 2048) (c : Fin 256) :
    val_main_v63 (F := Ideal) P Q I Wq Bq Wk Bk Wv Bv Wc Bc (ix2 (place b i) c)
      = fused P Q I Wq Bq Wk Bk Wv Bv Wc Bc b i c := by
  pointwise [val_main_v63, val_main_v62, val_main_v61, val_main_v60, val_main_v59]
  simp only [mix_at]
  rfl

end Cert.ReferenceIdeal.Rows
-- ==== Proof.Blocks.lean ====
/- The blocks a grid point reads, as elements of the argument arrays. -/
module

public import proofs.«01_k».proof.Proof.Carried
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Block

open Idealize.ShloMosaic Idealize.ShloMosaic.TcCoe Idealize.SL.Sem Cert.KernelIdeal.Gen Cert.KernelIdeal Cert.Knn

variable (m : (ℓ : Loc nD τ sig) → Buf (Elt Ideal) ℓ) (c : Dev nD)

/-- The blocks of a grid point, by its number. -/
theorem idx : ∀ t : Fin cfg0.N, t.val / 4 < 8
    ∧ win0_0.index t = ![t.val / 4, 0, 0] ∧ win0_1.index t = ![t.val / 4, t.val % 4, 0]
    ∧ win0_2.index t = ![t.val / 4, t.val % 4, 0] ∧ win0_3.index t = ![t.val / 4, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 4, t.val % 4, 0] :=
  (by decide +kernel : ∀ t : Fin grid0.N, _)

/-- The cloud of a grid point. -/
def cloud (t : Fin cfg0.N) : Fin 8 := ⟨t.val / 4, (idx t).1⟩

/-- The row of the cloud a row of the grid point's tile is. -/
def line (t : Fin cfg0.N) (r : Fin 512) : Fin 2048 := ⟨t.val % 4 * 512 + r.val, by omega⟩

/-- An argument array as launched. -/
abbrev arg (b : Ref sig .tc) : Buf (Elt Ideal) ((c : Thread nD τ).loc b) := m ((c : Thread nD τ).loc b)

/-- The arrays reshaped before the launch. -/
theorem entries :
    (V m c main_v0 : FVec Ideal S8x2048x3 .f32) = shapeCast S8x2048x3 (arg m c main_arg0 : FVec Ideal S16384x3 .f32) shapeCasts_S16384x3_S8x2048x3
    ∧ (V m c main_v1 : FVec Ideal S8x2048x256 .f32) = shapeCast S8x2048x256 (arg m c main_arg2 : FVec Ideal S16384x256 .f32) shapeCasts_S16384x256_S8x2048x256
    ∧ (V m c main_v2 : FVec Ideal S8x2048x256 .f32) = shapeCast S8x2048x256 (arg m c main_arg3 : FVec Ideal S16384x256 .f32) shapeCasts_S16384x256_S8x2048x256
    ∧ (V m c main_v3 : FVec Ideal S1x256 .f32) = shapeCast S1x256 (arg m c main_arg5 : FVec Ideal S256 .f32) shapeCasts_S256_S1x256
    ∧ (V m c main_v4 : FVec Ideal S1x256 .f32) = shapeCast S1x256 (arg m c main_arg7 : FVec Ideal S256 .f32) shapeCasts_S256_S1x256
    ∧ (V m c main_v5 : FVec Ideal S1x256 .f32) = shapeCast S1x256 (arg m c main_arg9 : FVec Ideal S256 .f32) shapeCasts_S256_S1x256
    ∧ (V m c main_v6 : FVec Ideal S1x256 .f32) = shapeCast S1x256 (arg m c main_arg11 : FVec Ideal S256 .f32) shapeCasts_S256_S1x256 := by
  refine ⟨?_, ?_, ?_, ?_, ?_, ?_, ?_⟩
  all_goals
    simp only [V, V0, List.flatten_cons, List.flatten_nil, List.append_nil, hostOps0]
    after_results
    rfl

/-- The points by cloud. -/
theorem cloud_cast (x : FVec Ideal S16384x3 .f32) (b : Fin 8) (j : Fin 2048) (a : Fin 3) :
    shapeCast S8x2048x3 x shapeCasts_S16384x3_S8x2048x3 (ix3 b j a) = x (ix2 (place b j) a) := by
  pointwise []
  rfl

/-- The features by cloud. -/
theorem feature_cast (x : FVec Ideal S16384x256 .f32) (b : Fin 8) (j : Fin 2048) (e : Fin 256) :
    shapeCast S8x2048x256 x shapeCasts_S16384x256_S8x2048x256 (ix3 b j e) = x (ix2 (place b j) e) := by
  pointwise []
  rfl

/-- A bias as one row. -/
theorem bias_cast (x : FVec Ideal S256 .f32) (e : Fin 256) :
    shapeCast S1x256 x shapeCasts_S256_S1x256 (ix2 0 e) = x (ix1 e) := by
  pointwise []

/-- The cloud of a grid point. -/
theorem points_at (t : Fin cfg0.N) (j : Fin 2048) (a : Fin 3) :
    (iblk m c 0 t : FVec Ideal S1x2048x3 .f32) (ix3 0 j a)
      = (arg m c main_arg0 : FVec Ideal S16384x3 .f32) (ix2 (place (cloud t) j) a) := by
  refine Eq.trans ?_ ((congrFun (entries m c).1 (ix3 (cloud t) j a)).trans (cloud_cast _ _ _ _))
  unfold cloud
  blk_ext [iblk, idx t]

/-- The tile of a grid point. -/
theorem tile_at (t : Fin cfg0.N) (r : Fin 512) (a : Fin 3) :
    (iblk m c 1 t : FVec Ideal S1x512x3 .f32) (ix3 0 r a)
      = (arg m c main_arg0 : FVec Ideal S16384x3 .f32) (ix2 (place (cloud t) (line t r)) a) := by
  refine Eq.trans ?_ ((congrFun (entries m c).1 (ix3 (cloud t) (line t r) a)).trans (cloud_cast _ _ _ _))
  unfold cloud line
  blk_ext [iblk, idx t]

/-- The lidar features of the tile. -/
theorem lidar_at (t : Fin cfg0.N) (r : Fin 512) (e : Fin 256) :
    (iblk m c 2 t : FVec Ideal S1x512x256 .f32) (ix3 0 r e)
      = (arg m c main_arg2 : FVec Ideal S16384x256 .f32) (ix2 (place (cloud t) (line t r)) e) := by
  refine Eq.trans ?_ ((congrFun (entries m c).2.1 (ix3 (cloud t) (line t r) e)).trans (feature_cast _ _ _ _))
  unfold cloud line
  blk_ext [iblk, idx t]

/-- The image features of the cloud. -/
theorem image_at (t : Fin cfg0.N) (j : Fin 2048) (e : Fin 256) :
    (iblk m c 3 t : FVec Ideal S1x2048x256 .f32) (ix3 0 j e)
      = (arg m c main_arg3 : FVec Ideal S16384x256 .f32) (ix2 (place (cloud t) j) e) := by
  refine Eq.trans ?_ ((congrFun (entries m c).2.2.1 (ix3 (cloud t) j e)).trans (feature_cast _ _ _ _))
  unfold cloud
  blk_ext [iblk, idx t]

/-- The four matrices, whole at every grid point. -/
theorem matrices_at (t : Fin cfg0.N) (e f : Fin 256) :
    (iblk m c 4 t : FVec Ideal S256x256 .f32) (ix2 e f) = (arg m c main_arg4 : FVec Ideal S256x256 .f32) (ix2 e f)
    ∧ (iblk m c 6 t : FVec Ideal S256x256 .f32) (ix2 e f) = (arg m c main_arg6 : FVec Ideal S256x256 .f32) (ix2 e f)
    ∧ (iblk m c 8 t : FVec Ideal S256x256 .f32) (ix2 e f) = (arg m c main_arg8 : FVec Ideal S256x256 .f32) (ix2 e f)
    ∧ (iblk m c 10 t : FVec Ideal S256x256 .f32) (ix2 e f) = (arg m c main_arg10 : FVec Ideal S256x256 .f32) (ix2 e f) := by
  refine ⟨?_, ?_, ?_, ?_⟩
  all_goals blk_ext [iblk, V, idx t]

/-- The four biases, whole at every grid point. -/
theorem biases_at (t : Fin cfg0.N) (e : Fin 256) :
    (iblk m c 5 t : FVec Ideal S1x256 .f32) (ix2 0 e) = (arg m c main_arg5 : FVec Ideal S256 .f32) (ix1 e)
    ∧ (iblk m c 7 t : FVec Ideal S1x256 .f32) (ix2 0 e) = (arg m c main_arg7 : FVec Ideal S256 .f32) (ix1 e)
    ∧ (iblk m c 9 t : FVec Ideal S1x256 .f32) (ix2 0 e) = (arg m c main_arg9 : FVec Ideal S256 .f32) (ix1 e)
    ∧ (iblk m c 11 t : FVec Ideal S1x256 .f32) (ix2 0 e) = (arg m c main_arg11 : FVec Ideal S256 .f32) (ix1 e) := by
  have h := (entries m c).2.2.2
  refine ⟨Eq.trans ?_ ((congrFun h.1 (ix2 0 e)).trans (bias_cast _ _)),
    Eq.trans ?_ ((congrFun h.2.1 (ix2 0 e)).trans (bias_cast _ _)),
    Eq.trans ?_ ((congrFun h.2.2.1 (ix2 0 e)).trans (bias_cast _ _)),
    Eq.trans ?_ ((congrFun h.2.2.2 (ix2 0 e)).trans (bias_cast _ _))⟩
  all_goals blk_ext [iblk, idx t]

end Cert.KernelIdeal.Block
-- ==== Proof.Select.lean ====
/- The body's threshold selects the sixteen nearest points of every row whose seventeen smallest distances are strictly
   increasing. -/
module

public import proofs.«01_k».proof.Proof.Thresh

@[expose] public section

set_option maxRecDepth 16384

noncomputable section

namespace Cert.KernelIdeal.Thresh

open Idealize.ShloMosaic Idealize.ShloMosaic.TcCoe Idealize.SL.Sem Cert.KernelIdeal.Gen Cert.KernelIdeal Cert.Knn

/-- The bound that a round gives. -/
theorem round_snd (p : FVec Ideal S512x2048 .f32 × FVec Ideal S512x1 .f32) : (Run.round p).2 = k0_pay561 p.1 := by
  simp only [Run.round]

/-- The bound after sixteen rounds, one row at a time. -/
theorem rounds_at (d : FVec Ideal S512x2048 .f32) (r : Fin 512) :
    Run.rounds d (ix2 r 0) = Finset.univ.inf (drop^[15] (row d r)) := by
  have h : ∀ n : ℕ, ∀ p : FVec Ideal S512x2048 .f32 × FVec Ideal S512x1 .f32,
      row (Run.round^[n] p).1 r = drop^[n] (row p.1 r) := fun n => by
    induction n with
    | zero => intro p; rfl
    | succ n ih =>
      intro p
      rw [Function.iterate_succ_apply', Function.iterate_succ_apply', ← ih]
      exact drop_at _ r
  have h16 : ∀ (n : ℕ) (p : FVec Ideal S512x2048 .f32 × FVec Ideal S512x1 .f32),
      (List.finRange n).foldl (fun p _ => Run.round p) p = Run.round^[n] p := fun n p => by
    rw [List.foldl_const, List.length_finRange]
  unfold Run.rounds
  rw [Scf.fold_eq]
  rw [show Scf.trips k0_t1_loop.lb k0_t1_loop.ub k0_t1_loop.st = 16 from by decide +kernel, h16,
    Function.iterate_succ_apply']
  rw [round_snd, least_at, h]

/-- The greatest number of entries under the threshold is at least that of a row. -/
theorem count_le (d : FVec Ideal S512x2048 .f32) (th : FVec Ideal S512x1 .f32) (r : Fin 512) :
    ((below (row d r) (th (ix2 r 0)) : ℕ) : EReal) ≤ Sel.maxCount d th := by
  unfold Sel.maxCount
  pointwise [ofBits_neg_inf]
  refine le_trans (le_of_eq ?_) (Finset.le_sup (f := fun x : Fin 512 × Fin 1 =>
    ∑ j : Fin 2048, FloatOps.sitofp (F := Ideal) FTy.f32 (BitVec.setWidth 32 (BitVec.ofBool (decide (d (ix2 x.1 j) ≤ th (ix2 x.1 0))))))
    (Finset.mem_univ (r, 0)))
  unfold below under row
  rw [Nat.cast_sum]
  refine Finset.sum_congr rfl fun j _ => ?_
  dsimp only
  by_cases h : d (ix2 r j) ≤ th (ix2 r 0)
  · rw [if_pos h, decide_eq_true h]
    show _ = (((BitVec.setWidth 32 (BitVec.ofBool true)).toInt : ℝ) : EReal)
    simp
  · rw [if_neg h, decide_eq_false h]
    show _ = (((BitVec.setWidth 32 (BitVec.ofBool false)).toInt : ℝ) : EReal)
    simp

/-- The test as an equation of extended reals. -/
theorem ok_word (x y : EReal) (h : Scalar.cmpi .ne
    (Scalar.extui (Scalar.cmpf (F := Ideal) (φ := .f32) .oeq x y) : BitVec 32) (0#32) = 1#1) : x = y := by
  by_contra hne
  have : Scalar.cmpf (F := Ideal) (φ := .f32) .oeq x y = 0#1 := by
    show BitVec.ofBool (decide (x = y)) = 0#1
    rw [decide_eq_false hne]; rfl
  rw [this] at h
  exact absurd h (by decide)

theorem scalar_ofBits (b : BitVec 32) : (Scalar.ofBits .f32 b : Ideal .f32) = Ideal.ofBits .f32 b := rfl

/-- A passed test: the greatest count is sixteen. -/
theorem ok_count (d : FVec Ideal S512x2048 .f32) (th : FVec Ideal S512x1 .f32) (h : Sel.ok d th = 1#1) :
    Sel.maxCount d th = ((16 : ℝ) : EReal) := by
  unfold Sel.ok at h
  exact ((ok_word _ _ h).trans (scalar_ofBits _)).trans ofBits_sixteen

/-- The body's threshold selects the sixteen nearest. -/
theorem select_at (d : FVec Ideal S512x2048 .f32) (r : Fin 512) (σ : Fin 2048 → Fin 2048) (h : Ordered (row d r) σ)
    (j : Fin 2048) : d (ix2 r j) ≤ Run.thresh d (ix2 r 0) ↔ ∃ k : Fin 16, σ (at16 k) = j := by
  unfold Run.thresh
  by_cases hok : Sel.ok d (Sel.thr d) = 1#1
  · rw [if_pos hok]
    refine h.select _ (le_antisymm ?_ ?_) j
    · have := (count_le d (Sel.thr d) r).trans_eq (ok_count d _ hok)
      rw [← EReal.coe_natCast, EReal.coe_le_coe_iff] at this
      exact_mod_cast this
    · rw [thr_at]; exact below_popped _
  · rw [if_neg hok, rounds_at, h.round16]
    exact h.select16 j

end Cert.KernelIdeal.Thresh
-- ==== Proof.Weights.lean ====
/- The weights a grid point's body gives to the points, one row at a time. -/
module

public import proofs.«01_k».proof.Proof.Thresh
public import proofs.«01_k».proof.Proof.Soft

@[expose] public section

set_option maxRecDepth 16384

noncomputable section

namespace Cert.KernelIdeal.Block

open Idealize.ShloMosaic Idealize.ShloMosaic.TcCoe Idealize.SL.Sem Cert.KernelIdeal.Gen Cert.KernelIdeal Cert.Knn
open Cert.KernelIdeal.Thresh (row ofBits_inf ofBits_neg_inf ofBits_sixteen ofBits_256)

/-- The query of a row. -/
def query (lidar : Vec Ideal S1x512x256 .f32) (Wq : Vec Ideal S256x256 .f32) (bq : Vec Ideal S1x256 .f32) (r : Fin 512)
    (e : Fin 256) : EReal :=
  (∑ f : Fin 256, (lidar (ix3 0 r f) : EReal) * Wq (ix2 e f)) + bq (ix2 0 e)

/-- The weights of a row. -/
theorem weights_at (mask : IVec S512x2048 1) (sc : EReal) (lidar : Vec Ideal S1x512x256 .f32) (Wq : Vec Ideal S256x256 .f32)
    (bq : Vec Ideal S1x256 .f32) (k : Vec Ideal S2048x256 .bf16) (r : Fin 512) (j : Fin 2048) :
    k0_pay565 (F := Ideal) mask sc lidar Wq bq k (ix2 r j)
      = weight (masked (fun j => mask (ix2 r j) = 1#1)
          fun j => ∑ e : Fin 256, (query lidar Wq bq r e * Ideal.div 1 sc) * (k (ix2 j e) : EReal)) j := by
  have hs : ∀ x, Scalar.select (mask (ix2 r x)) (∑ e : Fin 256, ((∑ f : Fin 256, (lidar (ix3 0 r f) : EReal) * Wq (ix2 e f)) + bq (ix2 0 e))
      * Ideal.div 1 sc * (k (ix2 x e) : EReal)) (0 - ⊤ : EReal) = masked (fun j => mask (ix2 r j) = 1#1)
          (fun j => ∑ e : Fin 256, (query lidar Wq bq r e * Ideal.div 1 sc) * (k (ix2 j e) : EReal)) x := fun x => by
    have hb : (0 - ⊤ : EReal) = ⊥ := by rw [zero_sub]; rfl
    rw [hb]
    rfl
  have hb : (0 - ⊤ : EReal) = ⊥ := by rw [zero_sub]; rfl
  generalize masked (fun j => mask (ix2 r j) = 1#1)
          (fun j => ∑ e : Fin 256, (query lidar Wq bq r e * Ideal.div 1 sc) * (k (ix2 j e) : EReal)) = s at hs ⊢
  pointwise [k0_pay565, ofBits_inf, ofBits_neg_inf]
  simp only [hs]
  rw [hb]
  rfl

end Cert.KernelIdeal.Block
-- ==== Proof.Tail.lean ====
/- What one grid point's body leaves in its output block, row by row: the scale, the mask and the last product. -/
module

public import proofs.«01_k».proof.Proof.Select
public import proofs.«01_k».proof.Proof.Weights

@[expose] public section

set_option maxRecDepth 16384

noncomputable section

namespace Cert.KernelIdeal.Block

open Idealize.ShloMosaic Idealize.ShloMosaic.TcCoe Idealize.SL.Sem Cert.KernelIdeal.Gen Cert.KernelIdeal Cert.Knn
open Cert.KernelIdeal.Thresh (row ofBits_inf ofBits_neg_inf ofBits_sixteen ofBits_256)

theorem scalar_sqrt (x : Ideal .f32) : (Scalar.sqrt x : Ideal .f32) = Ideal.sqrt x := rfl

/-- The scale of the body is one sixteenth. -/
theorem scale_eq : Ideal.div 1 (k0_pay564 (F := Ideal)) = ((1 / 16 : ℝ) : EReal) := by
  have h : k0_pay564 (F := Ideal) = ((16 : ℝ) : EReal) := by
    unfold k0_pay564
    dsimp only
    rw [scalar_sqrt, Ideal.ofBits_def, ofBits_256, Ideal.sqrt_coe, if_neg (by norm_num), show (256 : ℝ) = 16 ^ 2 by norm_num,
      Real.sqrt_sq (by norm_num)]
  rw [h, Ideal.div_coe (by norm_num), one_mul]

/-- The mask of the body: near enough, and not blank. -/
theorem mask_at (r1 : Vec Ideal S1x2048 .f32) (d : FVec Ideal S512x2048 .f32) (th : FVec Ideal S512x1 .f32) (r : Fin 512) (j : Fin 2048) :
    k0_pay563 (k0_pay9 r1) d th (ix2 r j) = 1#1 ↔ d (ix2 r j) ≤ th (ix2 r 0) ∧ (r1 (ix2 0 j) : EReal) ≠ 0 := by
  pointwise [k0_pay563, k0_pay9]
  have hand : ∀ a b : Bool, IntOp.andi (BitVec.ofBool a) (BitVec.ofBool b) = 1#1 ↔ a = true ∧ b = true := by decide
  rw [hand, decide_eq_true_iff, decide_eq_true_iff]

/-- The last product of the body. -/
theorem out_at (w : FVec Ideal S512x2048 .bf16) (v : Vec Ideal S2048x256 .bf16) (Wc : Vec Ideal S256x256 .f32)
    (bc : Vec Ideal S1x256 .f32) (r : Fin 512) (c : Fin 256) :
    k0_pay1 (F := Ideal) w v Wc bc (ix3 0 r c)
      = (∑ e : Fin 256, (∑ j : Fin 2048, w (ix2 r j) * (v (ix2 j e) : EReal)) * (Wc (ix2 c e) : EReal)) + (bc (ix2 0 c) : EReal) := by
  pointwise [k0_pay1]

end Cert.KernelIdeal.Block
-- ==== Proof.Block.lean ====
/- What one grid point's body leaves in its output block, row by row: the attention over the sixteen nearest points. -/
module

public import proofs.«01_k».proof.Proof.Select
public import proofs.«01_k».proof.Proof.Tail

@[expose] public section

set_option maxRecDepth 16384

noncomputable section

namespace Cert.KernelIdeal.Block

open Idealize.ShloMosaic Idealize.ShloMosaic.TcCoe Idealize.SL.Sem Cert.KernelIdeal.Gen Cert.KernelIdeal Cert.Knn
open Cert.KernelIdeal.Thresh (row ofBits_inf ofBits_neg_inf ofBits_sixteen ofBits_256)

/-- The output block, at a row whose distances are ordered: the attention over the sixteen nearest, and the last product. -/
theorem outBlock_at (x2 : Vec Ideal S1x2048x3 .f32) (x3 : Vec Ideal S1x512x3 .f32) (x4 : Vec Ideal S1x512x256 .f32)
    (x6 : Vec Ideal S256x256 .f32) (x7 : Vec Ideal S1x256 .f32) (x12 : Vec Ideal S256x256 .f32) (x13 : Vec Ideal S1x256 .f32)
    (k v : Vec Ideal S2048x256 .bf16) (r0 r1 : Vec Ideal S1x2048 .f32) (r : Fin 512) (c : Fin 256)
    (σ : Fin 2048 → Fin 2048) (h : Ordered (row (k0_pay10 (F := Ideal) x2 x3 r0) r) σ) :
    Run.outBlock (F := Ideal) x2 x3 x4 x6 x7 x12 x13 k v r0 r1 (ix3 0 r c)
      = (∑ e : Fin 256, (∑ n : Fin 16, weightNear (fun n => (r1 (ix2 0 (σ (at16 n))) : EReal) ≠ 0)
            (fun n => Ideal.div (∑ f : Fin 256, query x4 x6 x7 r f * (k (ix2 (σ (at16 n)) f) : EReal)) ((16 : ℝ) : EReal)) n
          * (v (ix2 (σ (at16 n)) e) : EReal)) * (x12 (ix2 c e) : EReal)) + (x13 (ix2 0 c) : EReal) := by
  unfold Run.outBlock
  generalize k0_pay10 (F := Ideal) x2 x3 r0 = d at h ⊢
  have ht : (fun j : Fin 2048 => ∑ e : Fin 256, (query x4 x6 x7 r e * Ideal.div 1 (k0_pay564 (F := Ideal))) * (k (ix2 j e) : EReal))
      = fun j => Ideal.div (∑ f : Fin 256, query x4 x6 x7 r f * (k (ix2 j f) : EReal)) ((16 : ℝ) : EReal) := by
    funext j
    rw [Ideal.div_coe (by norm_num), scale_eq, sum_scale _ (by norm_num)]
  have hw : ∀ j : Fin 2048, k0_pay565 (F := Ideal) (k0_pay563 (k0_pay9 r1) d (Run.thresh d)) (k0_pay564 (F := Ideal)) x4 x6 x7 k (ix2 r j)
      = weight (masked (fun j => k0_pay563 (k0_pay9 r1) d (Run.thresh d) (ix2 r j) = 1#1)
        fun j => Ideal.div (∑ f : Fin 256, query x4 x6 x7 r f * (k (ix2 j f) : EReal)) ((16 : ℝ) : EReal)) j := fun j =>
    (weights_at _ _ x4 x6 x7 k r j).trans (by rw [ht])
  generalize k0_pay565 (F := Ideal) (k0_pay563 (k0_pay9 r1) d (Run.thresh d)) (k0_pay564 (F := Ideal)) x4 x6 x7 k = w at hw ⊢
  rw [out_at]
  refine congrArg₂ (· + ·) (Finset.sum_congr rfl fun e _ => congrArg (· * (x12 (ix2 c e) : EReal)) ?_) rfl
  refine (Finset.sum_congr rfl fun j _ => congrArg (· * (v (ix2 j e) : EReal)) (hw j)).trans ?_
  refine attend (fun n => σ (at16 n)) ?_ (fun j => (r1 (ix2 0 j) : EReal) ≠ 0) _ ?_ _ _
  · intro a b hab
    have := h.bij.1 hab
    exact Fin.ext (by simpa using congrArg Fin.val this)
  · intro j
    rw [mask_at, Thresh.select_at d r σ h j]

end Cert.KernelIdeal.Block
-- ==== Proof.Inputs.lean ====
/- What a grid point reads and carries, one element at a time. -/
module

public import proofs.«01_k».proof.Proof.Thresh

@[expose] public section

set_option maxRecDepth 16384

noncomputable section

namespace Cert.KernelIdeal.Block

open Idealize.ShloMosaic Idealize.ShloMosaic.TcCoe Idealize.SL.Sem Cert.KernelIdeal.Gen Cert.KernelIdeal Cert.Knn

/-- The distances of the body: the squared norms less twice the inner product. -/
theorem gap_at (x2 : FVec Ideal S1x2048x3 .f32) (x3 : FVec Ideal S1x512x3 .f32) (s : FVec Ideal S1x2048 .f32) (r : Fin 512)
    (j : Fin 2048) : k0_pay10 (F := Ideal) x2 x3 s (ix2 r j)
      = ((∑ a : Fin 3, x3 (ix3 0 r a) * x3 (ix3 0 r a)) + s (ix2 0 j))
        - Ideal.ofBits .f32 0x40000000#32 * ∑ a : Fin 3, x3 (ix3 0 r a) * x2 (ix3 0 j a) := by
  pointwise [k0_pay10, k0_pay7]

/-- The keys of the body: rows through an affine map. -/
theorem keys_at (x : FVec Ideal S1x2048x256 .f32) (w : FVec Ideal S256x256 .f32) (bias : FVec Ideal S1x256 .f32)
    (j : Fin 2048) (e : Fin 256) : (k0_pay3 (F := Ideal) x w bias (ix2 j e) : EReal)
      = (∑ f : Fin 256, x (ix3 0 j f) * w (ix2 e f)) + bias (ix2 0 e) := by
  pointwise [k0_pay3, k0_pay2]

/-- The values of the body: rows through an affine map. -/
theorem values_at (x : FVec Ideal S1x2048x256 .f32) (w : FVec Ideal S256x256 .f32) (bias : FVec Ideal S1x256 .f32)
    (j : Fin 2048) (e : Fin 256) : (k0_pay4 (F := Ideal) x w bias (ix2 j e) : EReal)
      = (∑ f : Fin 256, x (ix3 0 j f) * w (ix2 e f)) + bias (ix2 0 e) := keys_at x w bias j e

/-- The squared norms of the body. -/
theorem norm_at (x2 : FVec Ideal S1x2048x3 .f32) (j : Fin 2048) : k0_pay5 (F := Ideal) (k0_pay7 x2) (ix2 0 j)
      = ∑ a : Fin 3, x2 (ix3 0 j a) * x2 (ix3 0 j a) := by
  pointwise [k0_pay5, k0_pay7]

/-- The sums of the image features of the body. -/
theorem total_at (x : FVec Ideal S1x2048x256 .f32) (j : Fin 2048) : k0_pay8 (F := Ideal) (k0_pay2 x) k0_pay6 (ix2 0 j)
      = ∑ f : Fin 256, x (ix3 0 j f) := by
  pointwise [k0_pay8, k0_pay2, k0_pay6]

end Cert.KernelIdeal.Block
-- ==== Proof.Array.lean ====
/- The kernel's result array: every grid point stores the attention of its tile's rows. -/
module

public import proofs.«01_k».proof.Proof.Blocks
public import proofs.«01_k».proof.Proof.Block
public import proofs.«01_k».proof.Proof.Inputs

@[expose] public section

set_option maxRecDepth 16384

noncomputable section

namespace Cert.KernelIdeal.Block

open Idealize.ShloMosaic Idealize.ShloMosaic.TcCoe Idealize.SL.Sem Cert.KernelIdeal.Gen Cert.KernelIdeal Cert.Knn
open Cert.KernelIdeal.Thresh Cert.KernelIdeal.Run

/-- The attention of a row, its reads replaced by equal ones. -/
theorem mix_congr {s s' t t' : Fin 16 → EReal} {v v' : Fin 16 → Fin 256 → EReal} {w w' : Fin 256 → EReal} {z z' : EReal}
    (hs : ∀ n, s n = s' n) (ht : ∀ n, t n = t' n) (hv : ∀ n e, v n e = v' n e) (hw : ∀ e, w e = w' e) (hz : z = z') :
    (∑ e : Fin 256, (∑ n : Fin 16, weightNear (fun n => s n ≠ 0) t n * v n e) * w e) + z
      = (∑ e : Fin 256, (∑ n : Fin 16, weightNear (fun n => s' n ≠ 0) t' n * v' n e) * w' e) + z' := by
  obtain rfl : s = s' := funext hs
  obtain rfl : t = t' := funext ht
  obtain rfl : v = v' := funext fun n => funext (hv n)
  obtain rfl : w = w' := funext hw
  rw [hz]

variable (m : (ℓ : Loc nD τ sig) → Buf (Elt Ideal) ℓ) (c : Dev nD)

/-- The first tile of a cloud is of that cloud. -/
theorem cloud_head (t : Fin cfg0.N) : cloud (head t) = cloud t := by
  unfold cloud head
  refine Fin.ext ?_
  show (t.val - t.val % 4) / 4 = t.val / 4
  omega

/-- The carried keys are the image features through their affine map. -/
theorem key_at (t : Fin cfg0.N) (j : Fin 2048) (e : Fin 256) :
    (keyAt m c t (ix2 j e) : EReal)
      = affine (arg m c main_arg3) (arg m c main_arg6) (arg m c main_arg7) (place (cloud t) j) e := by
  refine (keys_at (iblk m c 3 t) (iblk m c 6 t) (iblk m c 7 t) j e).trans ?_
  exact congrArg₂ (· + ·) (Finset.sum_congr rfl fun f _ =>
    congrArg₂ (· * ·) (image_at m c t j f) (matrices_at m c t e f).2.1) (biases_at m c t e).2.1

/-- The carried values are the image features through their affine map. -/
theorem value_at (t : Fin cfg0.N) (j : Fin 2048) (e : Fin 256) :
    (valAt m c t (ix2 j e) : EReal)
      = affine (arg m c main_arg3) (arg m c main_arg8) (arg m c main_arg9) (place (cloud t) j) e := by
  refine (values_at (iblk m c 3 t) (iblk m c 8 t) (iblk m c 9 t) j e).trans ?_
  exact congrArg₂ (· + ·) (Finset.sum_congr rfl fun f _ =>
    congrArg₂ (· * ·) (image_at m c t j f) (matrices_at m c t e f).2.2.1) (biases_at m c t e).2.2.1

/-- The carried first row is the squared norms of the cloud. -/
theorem sq_at (t : Fin cfg0.N) (j : Fin 2048) :
    (sqAt m c t (ix2 0 j) : EReal) = normSq (arg m c main_arg0) (place (cloud t) j) := by
  refine (norm_at (iblk m c 0 t) j).trans ?_
  exact Finset.sum_congr rfl fun a _ => congrArg₂ (· * ·) (points_at m c t j a) (points_at m c t j a)

/-- The carried second row is the sums of the image features. -/
theorem sum_at (t : Fin cfg0.N) (j : Fin 2048) :
    (sumAt m c t (ix2 0 j) : EReal)
      = ∑ f : Fin 256, (show EReal from (arg m c main_arg3 : FVec Ideal S16384x256 .f32) (ix2 (place (cloud t) j) f)) :=
  (total_at (iblk m c 3 t) j).trans
    (congrArg (fun g : Fin 256 → EReal => ∑ f, g f) (funext fun f => image_at m c t j f))

/-- The queries of the tile, before the scale. -/
theorem query_at (t : Fin cfg0.N) (r : Fin 512) (e : Fin 256) :
    query (iblk m c 2 t) (iblk m c 4 t) (iblk m c 5 t) r e
      = affine (arg m c main_arg2) (arg m c main_arg4) (arg m c main_arg5) (place (cloud t) (line t r)) e :=
  congrArg₂ (· + ·) (Finset.sum_congr rfl fun f _ =>
    congrArg₂ (· * ·) (lidar_at m c t r f) (matrices_at m c t e f).1) (biases_at m c t e).1

/-- A row of distances of the tile is the row of distances of its point. -/
theorem row_at (t : Fin cfg0.N) (r : Fin 512) :
    row (k0_pay10 (F := Ideal) (iblk m c 0 t) (iblk m c 1 t) (sqAt m c (head t))) r
      = gap (arg m c main_arg0) (cloud t) (line t r) := by
  funext j
  refine (gap_at (iblk m c 0 t) (iblk m c 1 t) (sqAt m c (head t)) r j).trans ?_
  have hs := sq_at m c (head t) j
  rw [cloud_head] at hs
  exact congrArg₂ (· - ·) (congrArg₂ (· + ·)
      (Finset.sum_congr rfl fun a _ => congrArg₂ (· * ·) (tile_at m c t r a) (tile_at m c t r a)) hs)
    (congrArg _ (Finset.sum_congr rfl fun a _ => congrArg₂ (· * ·) (tile_at m c t r a) (points_at m c t j a)))

/-- The result at a row of a cloud, over the launched arrays. -/
def resultAt (b : Fin 8) (i : Fin 2048) (e : Fin 256) : EReal :=
  fused (arg m c main_arg0) (arg m c main_arg2) (arg m c main_arg3) (arg m c main_arg4) (arg m c main_arg5)
    (arg m c main_arg6) (arg m c main_arg7) (arg m c main_arg8) (arg m c main_arg9) (arg m c main_arg10)
    (arg m c main_arg11) b i e

/-- What a grid point stores: the result at the points of its tile. -/
theorem stored_at (h : ∀ b i, Ordered (gap (arg m c main_arg0) b i) (nearest (arg m c main_arg0) b i))
    (t : Fin cfg0.N) (r : Fin 512) (e : Fin 256) :
    (outAt m c t (ix3 0 r e) : EReal) = resultAt m c (cloud t) (line t r) e := by
  have hr := h (cloud t) (line t r)
  rw [← row_at] at hr
  refine (outBlock_at (iblk m c 0 t) (iblk m c 1 t) (iblk m c 2 t) (iblk m c 4 t) (iblk m c 5 t) (iblk m c 10 t)
    (iblk m c 11 t) (keyAt m c (head t)) (valAt m c (head t)) (sqAt m c (head t)) (sumAt m c (head t)) r e _ hr).trans ?_
  have hc := cloud_head t
  refine mix_congr (fun n => ?_) (fun n => ?_) (fun n a => ?_) (fun a => ?_) ?_
  · exact (sum_at m c (head t) _).trans (by rw [hc]; rfl)
  · refine congrArg (Ideal.div · _) (Finset.sum_congr rfl fun f _ => congrArg₂ (· * ·) (query_at m c t r f) ?_)
    exact (key_at m c (head t) _ f).trans (by rw [hc]; rfl)
  · exact (value_at m c (head t) _ a).trans (by rw [hc]; rfl)
  · exact (matrices_at m c t e a).2.2.2
  · exact (biases_at m c t e).2.2.2

end Cert.KernelIdeal.Block
-- ==== Proof.Final.lean ====
/- The kernel's result: the attention of every point of every cloud. -/
module

public import proofs.«01_k».proof.Proof.Array

@[expose] public section

set_option maxRecDepth 16384

noncomputable section

namespace Cert.KernelIdeal.Block

open Idealize.ShloMosaic Idealize.ShloMosaic.TcCoe Idealize.SL.Sem Cert.KernelIdeal.Gen Cert.KernelIdeal Cert.Knn
open Cert.KernelIdeal.Run

variable (m : (ℓ : Loc nD τ sig) → Buf (Elt Ideal) ℓ) (c : Dev nD)

/-- Where a grid point's entry lands in the array. -/
theorem stored_index (t : Fin cfg0.N) (r : Fin 512) (e : Fin 256) :
    (win0_12.blk t).view.emb (ix3 0 r e) = (ix3 (cloud t) (line t r) e : S8x2048x256.Idx) := by
  unfold cloud line
  blk_ext [idx t]

/-- The array the grid fills: one entry per cloud, point and channel. -/
theorem array_eq (h : ∀ b i, Ordered (gap (arg m c main_arg0) b i) (nearest (arg m c main_arg0) b i)) :
    (dats m 0 c).arrAt 12 cfg0.N = fun i : S8x2048x256.Idx => resultAt m c (i 0) (i 1) (i 2) := by
  have hS := stored_at m c h
  generalize resultAt m c = R at hS ⊢
  refine (dats m 0 c).arrAt_eq_of_covers 12 _ (by decide +kernel) fun t _ y => ?_
  blk_simp
  rw [after0_12]
  have hy : y = (ix3 0 (y 1) (y 2) : S1x512x256.Idx) := by
    funext a
    match a with
    | ⟨0, _⟩ => exact Subsingleton.elim (α := Fin 1) _ _
    | ⟨1, _⟩ => rfl
    | ⟨2, _⟩ => rfl
  generalize (y 1 : Fin 512) = r at hy
  generalize (y 2 : Fin 256) = e at hy
  subst hy
  refine (hS t r e).trans ?_
  have hE := stored_index t r e
  generalize (win0_12.blk t).view.emb (ix3 0 r e) = z at hE ⊢
  subst hE
  rfl

/-- The array reshaped to rows, at a point of a cloud. -/
theorem row_cast (x : FVec Ideal S8x2048x256 .f32) (b : Fin 8) (i : Fin 2048) (e : Fin 256) :
    shapeCast S16384x256 x shapeCasts_S8x2048x256_S16384x256 (ix2 (place b i) e) = x (ix3 b i e) := by
  refine shapeCast_apply _ _ (ix2 (place b i) e) (ix3 b i e) ?_
  rw [Shape.rowMajor_val_three, Shape.rowMajor_val_two]
  rfl

/-- The array as rows. -/
def rows : (⟨S16384x256, .f32⟩ : BufTy).Contents (Elt Ideal) :=
  shapeCast S16384x256 (fun i : S8x2048x256.Idx => resultAt m c (i 0) (i 1) (i 2) : FVec Ideal S8x2048x256 .f32)
    shapeCasts_S8x2048x256_S16384x256

/-- The rows at a point of a cloud are the result there. -/
theorem rows_at (b : Fin 8) (i : Fin 2048) (e : Fin 256) : rows m c (ix2 (place b i) e) = resultAt m c b i e := by
  unfold rows
  generalize hG : (fun i : S8x2048x256.Idx => resultAt m c (i 0) (i 1) (i 2) : FVec Ideal S8x2048x256 .f32) = G
  refine (row_cast G b i e).trans ?_
  rw [← hG]
  rfl

/-- The array is reshaped to rows after the grid. -/
theorem result_eq (h : ∀ b i, Ordered (gap (arg m c main_arg0) b i) (nearest (arg m c main_arg0) b i)) :
    Pipeline.afterTail₀ cfgs (dats m) 0 (V0 m) [hostOps1] c main_v8 = rows m c := by
  have hw : Pipeline.withArrays (cfgs 0).spec c (V0 m c) (fun w => (dats m 0 c).arrAt w (cfgs 0).N)
      (Proc.devRef .tc main_v7) = (dats m 0 c).arrAt 12 cfg0.N :=
    Pipeline.withArrays_arr_shared (cfgs 0).spec c (V0 m c) (fun w => (dats m 0 c).arrAt w (cfgs 0).N)
      (Pipeline.Dat.arrAt_sharedIn (dats m 0 c) sharedIn0 (V0 m c) (A_eq m c) _) 12
  unfold Pipeline.afterTail₀
  generalize hU : Pipeline.withArrays (cfgs 0).spec c (V0 m c) (fun w => (dats m 0 c).arrAt w (cfgs 0).N) = U at hw
  simp only [List.flatten_cons, List.flatten_nil, List.append_nil, hostOps1]
  after_results
  rw [hw, array_eq m c h]
  rfl

end Cert.KernelIdeal.Block

end
-- ==== Proof.Agree.lean ====
/- The value claim: from equal arguments the kernel and the reference end with equal results. -/
module

public import proofs.«01_k».proof.Defs
public import proofs.«01_k».proof.Proof.Gen.ReferenceIdeal.Run
public import proofs.«01_k».proof.Proof.Gen.ReferenceIdeal.Read
public import proofs.«01_k».proof.Proof.Gen.Pre_neighbours_strict
public import proofs.«01_k».proof.Proof.Frames
public import proofs.«01_k».proof.Proof.Apart
public import proofs.«01_k».proof.Proof.RefRows
public import proofs.«01_k».proof.Proof.Final
public import Idealize.ShloMosaic.Lib.Claim

@[expose] public section

set_option maxRecDepth 16384

noncomputable section

namespace Cert.Proof

open Idealize.ShloMosaic Idealize.ShloMosaic.TcCoe Idealize.SL.Sem Cert.Knn
open Cert.KernelIdeal.Block (arg rows rows_at result_eq resultAt)

/-- Every row of the clouds in order is a point of a cloud. -/
theorem exists_place (n : Fin 16384) : ∃ b i, n = place b i :=
  ⟨⟨n.val / 2048, by omega⟩, ⟨n.val % 2048, Nat.mod_lt _ (by decide)⟩, Fin.ext (by
    show n.val = n.val / 2048 * 2048 + n.val % 2048
    omega)⟩

/-- Arrays of rows are equal when they are at every point of every cloud. -/
theorem rows_ext {x y : Features.Idx → EReal} (h : ∀ b i e, x (ix2 (place b i) e) = y (ix2 (place b i) e)) : x = y := by
  funext k
  obtain ⟨b, i, hb⟩ := exists_place (k 0)
  have hk : k = ix2 (place b i) (k 1) := by
    funext a
    match a with
    | ⟨0, _⟩ => exact hb
    | ⟨1, _⟩ => rfl
  rw [hk]
  exact h b i _

/-- The reference's result from the kernel's arguments is the kernel's. -/
theorem reference_eq (m : (ℓ : Loc Cert.KernelIdeal.nD Cert.KernelIdeal.τ Cert.KernelIdeal.sig) → Buf (Elt Ideal) ℓ)
    (c : Dev Cert.KernelIdeal.nD) :
    Cert.ReferenceIdeal.Read.val_main_v63 (F := Ideal) (arg m c Cert.KernelIdeal.main_arg0) (arg m c Cert.KernelIdeal.main_arg2)
      (arg m c Cert.KernelIdeal.main_arg3) (arg m c Cert.KernelIdeal.main_arg4) (arg m c Cert.KernelIdeal.main_arg5)
      (arg m c Cert.KernelIdeal.main_arg6) (arg m c Cert.KernelIdeal.main_arg7) (arg m c Cert.KernelIdeal.main_arg8)
      (arg m c Cert.KernelIdeal.main_arg9) (arg m c Cert.KernelIdeal.main_arg10) (arg m c Cert.KernelIdeal.main_arg11)
      = rows m c :=
  rows_ext fun b i e => (Cert.ReferenceIdeal.Rows.result_at _ _ _ _ _ _ _ _ _ _ _ b i e).trans (rows_at m c b i e).symm

/-- The reference's result depends on its arguments alone. -/
theorem reference_congr {P P' : Points.Idx → EReal} {Q Q' I I' : Features.Idx → EReal} {Wq Wq' : Matrix.Idx → EReal}
    {Bq Bq' : Bias.Idx → EReal} {Wk Wk' : Matrix.Idx → EReal} {Bk Bk' : Bias.Idx → EReal} {Wv Wv' : Matrix.Idx → EReal}
    {Bv Bv' : Bias.Idx → EReal} {Wc Wc' : Matrix.Idx → EReal} {Bc Bc' : Bias.Idx → EReal} (h0 : P = P') (h2 : Q = Q')
    (h3 : I = I') (h4 : Wq = Wq') (h5 : Bq = Bq') (h6 : Wk = Wk') (h7 : Bk = Bk') (h8 : Wv = Wv') (h9 : Bv = Bv')
    (h10 : Wc = Wc') (h11 : Bc = Bc') :
    Cert.ReferenceIdeal.Read.val_main_v63 (F := Ideal) P Q I Wq Bq Wk Bk Wv Bv Wc Bc
      = Cert.ReferenceIdeal.Read.val_main_v63 (F := Ideal) P' Q' I' Wq' Bq' Wk' Bk' Wv' Bv' Wc' Bc' := by
  subst h0 h2 h3 h4 h5 h6 h7 h8 h9 h10 h11
  rfl

/-- The kernel's run: its result and the arguments unchanged. -/
theorem run_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_neighbours_strict m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v8) = rows m c) :=
  (θ_run Cert.KernelIdeal.defs _ _).mono (fun _ h c =>
    ((h c).2 Cert.KernelIdeal.main_v8 (Pipeline.mem_restRefs_of Cert.KernelIdeal.main_v8 (by decide) (by decide))).trans
      (result_eq m c (Cert.Pre_neighbours_strict.ordered _ _ _ _ _ _ _ _ _ _ _ _ (hpre c))))
    (Cert.KernelIdeal.Run.run_main m ρ)

/-- From equal arguments, the seventeen smallest distances of every row strictly increasing, kernel and
  reference end with equal results. -/
theorem algebraic : Cert.algebraic_KernelIdeal_ReferenceIdeal_pre_neighbours_strict := by
  intro m g m' g' hpre hagree
  refine ⟨rows m, ?_, ?_⟩
  · exact (θ_run Cert.KernelIdeal.defs _ _).mono (fun _ h c => ⟨h.1 c, h.2.1 c⟩)
      (θ_run_and (run_value m g hpre) (run_frame (F := Ideal) m g))
  · refine (θ_run Cert.ReferenceIdeal.defs _ _).mono (fun r h c => ⟨?_, (h c).2⟩)
      (Cert.ReferenceIdeal.Value.run (F := Ideal) m' g')
    refine (h c).1.trans ((Cert.ReferenceIdeal.Read.val_main_v63_eq (F := Ideal) (StableHlo.launchContents m' c)).trans ?_)
    obtain ⟨h0, -, h2, h3, h4, h5, h6, h7, h8, h9, h10, h11⟩ := hagree c
    exact (reference_congr h0 h2 h3 h4 h5 h6 h7 h8 h9 h10 h11).trans (reference_eq m c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_neighbours_strict
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_neighbours_strict.Gen.facts, frame_kernel, frame_kernelIdeal, fun m g _ => frame_kernelIdeal m g trivial,
  frame_referenceIdeal, fun m g _ => frame_referenceIdeal m g trivial, trivial, algebraic⟩

end Cert.Proof

end
